-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x16384x6144 : Shape := ⟨3, ![1, 16384, 6144]⟩
abbrev S1x16384x768 : Shape := ⟨3, ![1, 16384, 768]⟩
abbrev S1 : Shape := ⟨1, ![1]⟩
abbrev S3072x6144 : Shape := ⟨2, ![3072, 6144]⟩
abbrev S3072x768 : Shape := ⟨2, ![3072, 768]⟩
abbrev S16384x6144 : Shape := ⟨2, ![16384, 6144]⟩
abbrev S16384x768 : Shape := ⟨2, ![16384, 768]⟩
abbrev S16384x3072 : Shape := ⟨2, ![16384, 3072]⟩
abbrev S1024x6144 : Shape := ⟨2, ![1024, 6144]⟩
abbrev S1024x768 : Shape := ⟨2, ![1024, 768]⟩
abbrev S512x6144 : Shape := ⟨2, ![512, 6144]⟩
abbrev S512x768 : Shape := ⟨2, ![512, 768]⟩
abbrev S1024x512 : Shape := ⟨2, ![1024, 512]⟩
abbrev S1024x12288 : Shape := ⟨2, ![1024, 12288]⟩
abbrev S8x128 : Shape := ⟨2, ![8, 128]⟩
abbrev S1024x1024 : Shape := ⟨2, ![1024, 1024]⟩
abbrev S1024x128 : Shape := ⟨2, ![1024, 128]⟩
abbrev S256x1024 : Shape := ⟨2, ![256, 1024]⟩
abbrev S256x128 : Shape := ⟨2, ![256, 128]⟩
abbrev S1024x128x1 : Shape := ⟨3, ![1024, 128, 1]⟩
abbrev S1024x256 : Shape := ⟨2, ![1024, 256]⟩
abbrev S1024x2048 : Shape := ⟨2, ![1024, 2048]⟩
abbrev S512x1024 : Shape := ⟨2, ![512, 1024]⟩
abbrev S512x128 : Shape := ⟨2, ![512, 128]⟩
abbrev S128x1024 : Shape := ⟨2, ![128, 1024]⟩
abbrev S128x128 : Shape := ⟨2, ![128, 128]⟩
abbrev S512x128x1 : Shape := ⟨3, ![512, 128, 1]⟩
abbrev S512x256 : Shape := ⟨2, ![512, 256]⟩
abbrev S512x2048 : Shape := ⟨2, ![512, 2048]⟩

abbrev nBuf : Space → Nat
  | .hbm => 9
  | .vmem => 12
  | .smem => 2
  | _ => 0

abbrev bufTy : (tb : Table) → Fin (tcTables nBuf tb) → BufTy
  | .hbm, ⟨0, _⟩ => ⟨S1x16384x6144, .i8⟩
  | .hbm, ⟨1, _⟩ => ⟨S1x16384x768, .fp8e4m3⟩
  | .hbm, ⟨2, _⟩ => ⟨S1, .f32⟩
  | .hbm, ⟨3, _⟩ => ⟨S3072x6144, .i8⟩
  | .hbm, ⟨4, _⟩ => ⟨S3072x768, .fp8e4m3⟩
  | .hbm, ⟨5, _⟩ => ⟨S1, .f32⟩
  | .hbm, ⟨6, _⟩ => ⟨S16384x6144, .i8⟩
  | .hbm, ⟨7, _⟩ => ⟨S16384x768, .fp8e4m3⟩
  | .hbm, ⟨8, _⟩ => ⟨S16384x3072, .bf16⟩
  | .local _ .vmem, ⟨0, _⟩ => ⟨S1024x6144, .i8⟩
  | .local _ .vmem, ⟨1, _⟩ => ⟨S1024x6144, .i8⟩
  | .local _ .vmem, ⟨2, _⟩ => ⟨S1024x768, .fp8e4m3⟩
  | .local _ .vmem, ⟨3, _⟩ => ⟨S1024x768, .fp8e4m3⟩
  | .local _ .vmem, ⟨4, _⟩ => ⟨S512x6144, .i8⟩
  | .local _ .vmem, ⟨5, _⟩ => ⟨S512x6144, .i8⟩
  | .local _ .vmem, ⟨6, _⟩ => ⟨S512x768, .fp8e4m3⟩
  | .local _ .vmem, ⟨7, _⟩ => ⟨S512x768, .fp8e4m3⟩
  | .local _ .vmem, ⟨8, _⟩ => ⟨S1024x512, .bf16⟩
  | .local _ .vmem, ⟨9, _⟩ => ⟨S1024x512, .bf16⟩
  | .local _ .vmem, ⟨10, _⟩ => ⟨S1024x12288, .bf16⟩
  | .local _ .vmem, ⟨11, _⟩ => ⟨S8x128, .f32⟩
  | .local _ .smem, ⟨0, _⟩ => ⟨S1, .f32⟩
  | .local _ .smem, ⟨1, _⟩ => ⟨S1, .f32⟩
  | _, _ => ⟨S1x16384x6144, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 6], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x6144 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x768 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x6144 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x768 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S1x16384x6144 : Shape := ⟨3, ![1, 16384, 6144]⟩
abbrev S1x16384x768 : Shape := ⟨3, ![1, 16384, 768]⟩
abbrev S1 : Shape := ⟨1, ![1]⟩
abbrev S3072x6144 : Shape := ⟨2, ![3072, 6144]⟩
abbrev S3072x768 : Shape := ⟨2, ![3072, 768]⟩
abbrev S16384x6144 : Shape := ⟨2, ![16384, 6144]⟩
abbrev S16384x768 : Shape := ⟨2, ![16384, 768]⟩
abbrev S16384x3072 : Shape := ⟨2, ![16384, 3072]⟩
abbrev S16384x768x8 : Shape := ⟨3, ![16384, 768, 8]⟩
abbrev S16384x768x1 : Shape := ⟨3, ![16384, 768, 1]⟩
abbrev S3072x768x8 : Shape := ⟨3, ![3072, 768, 8]⟩
abbrev S3072x768x1 : Shape := ⟨3, ![3072, 768, 1]⟩

abbrev nBuf : Space → Nat
  | .hbm => 9
  | .vmem => 5
  | .smem => 2
  | _ => 0

abbrev bufTy : (tb : Table) → Fin (tcTables nBuf tb) → BufTy
  | .hbm, ⟨0, _⟩ => ⟨S1x16384x6144, .i8⟩
  | .hbm, ⟨1, _⟩ => ⟨S1x16384x768, .fp8e4m3⟩
  | .hbm, ⟨2, _⟩ => ⟨S1, .f32⟩
  | .hbm, ⟨3, _⟩ => ⟨S3072x6144, .i8⟩
  | .hbm, ⟨4, _⟩ => ⟨S3072x768, .fp8e4m3⟩
  | .hbm, ⟨5, _⟩ => ⟨S1, .f32⟩
  | .hbm, ⟨6, _⟩ => ⟨S16384x6144, .i8⟩
  | .hbm, ⟨7, _⟩ => ⟨S16384x768, .fp8e4m3⟩
  | .hbm, ⟨8, _⟩ => ⟨S16384x3072, .bf16⟩
  | .local _ .vmem, ⟨0, _⟩ => ⟨S16384x6144, .i8⟩
  | .local _ .vmem, ⟨1, _⟩ => ⟨S16384x768, .fp8e4m3⟩
  | .local _ .vmem, ⟨2, _⟩ => ⟨S3072x6144, .i8⟩
  | .local _ .vmem, ⟨3, _⟩ => ⟨S3072x768, .fp8e4m3⟩
  | .local _ .vmem, ⟨4, _⟩ => ⟨S16384x3072, .bf16⟩
  | .local _ .smem, ⟨0, _⟩ => ⟨S1, .f32⟩
  | .local _ .smem, ⟨1, _⟩ => ⟨S1, .f32⟩
  | _, _ => ⟨S1x16384x6144, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg6_0 : Ref sig .tc := ⟨.vmem, 4, rfl⟩
abbrev cc0_stg2_0 : Ref sig .tc := ⟨.smem, 0, rfl⟩
abbrev cc0_stg5_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S16384x6144 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x768 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3072x6144 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3072x768 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .smem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16384x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Decode.lean ====
/-
  One packed block, decoded. A group of 1024 packed columns holds 2048 four-bit codes per row, two in each byte, and one
  scale for every eight columns. The kernel decodes it in eight chunks of 128 columns: the low codes of the chunk, scaled,
  then its high codes, scaled. The definitions here write that once, for any number of rows; the payloads that the kernel's
  text was cut into are shown equal to them elsewhere.
-/
module

public import Idealize.ShloMosaic.Lib.Pipeline.Value
public import Idealize.ShloMosaic.Lib.Pointwise

@[expose] public section

noncomputable section

open Idealize.ShloMosaic

namespace Cert.Decode

/-- A matrix shape. -/
abbrev Mat (a b : Nat) : Shape := ⟨2, ![a, b]⟩

/-- The words whose bytes are the eight-bit patterns of the low codes: bits 0–2 moved to bits 2–4, bit 3 to bit 7. -/
def loWords {s : Shape} (w : IVec s 32) : IVec s 32 :=
  ori (shli (andi w (broadcast s 117901063#32)) (broadcast s 2#32))
    (shli (andi w (broadcast s 134744072#32)) (broadcast s 4#32))

/-- The words whose bytes are the eight-bit patterns of the high codes: bits 4–6 moved to bits 2–4, bit 7 kept. -/
def hiWords {s : Shape} (w : IVec s 32) : IVec s 32 :=
  ori (andi (shrsi w (broadcast s 2#32)) (broadcast s 471604252#32)) (andi w (broadcast s 2155905152#32))

/-- What the shapes of a block of `R` rows must satisfy; each is decided at the two row counts used. -/
structure Fits (R r : Nat) : Prop where
  iotas : (Mat R 128).Iotas .tc 32 [1]
  castUp : (Mat R 128).ShapeCasts ⟨3, ![R, 128, 1]⟩
  castDown : (⟨3, ![R, 128, 1]⟩ : Shape).ShapeCasts (Mat R 128)
  bytes : (Mat r 128).Bitcasts 32 (Mat R 128) 8
  words : (Mat R 1024).Bitcasts 8 (Mat r 1024) 32
  slice : ∀ c : Fin 8, (Mat r 1024).Slices ![0, 128 * c.val] (Mat r 128)
  pair : Shape.Concatenates [Mat R 128, Mat R 128] (Mat R 256) 1
  eight : Shape.Concatenates [Mat R 256, Mat R 256, Mat R 256, Mat R 256, Mat R 256, Mat R 256, Mat R 256, Mat R 256]
    (Mat R 2048) 1

/-- The shape facts at 1024 rows. -/
theorem fits1024 : Fits 1024 256 := ⟨by decide, by decide, by decide, by decide, by decide, by decide, by decide, by decide⟩

/-- The shape facts at 512 rows. -/
theorem fits512 : Fits 512 128 := ⟨by decide, by decide, by decide, by decide, by decide, by decide, by decide, by decide⟩

variable {F : FTy → Type} [FloatOps F] {R r : Nat}

/-- The lane each lane's scale is taken from before the wrap of negative lanes: lane / 8 + `k`. -/
def lane8 (H : Fits R r) (k : BitVec 32) : IVec (Mat R 128) 32 :=
  addi (shrsi (iota .tc (Mat R 128) 32 [1] H.iotas) (broadcast (Mat R 128) 3#32)) (broadcast (Mat R 128) k)

/-- The gather's lanes: a negative lane would count from the end. -/
def lanes (H : Fits R r) (k : BitVec 32) : IVec (Mat R 128) 32 :=
  shapeCast (Mat R 128)
    (shapeCast ⟨3, ![R, 128, 1]⟩
      (select (cmpi .slt (lane8 H k) (broadcast (Mat R 128) 0#32)) (addi (lane8 H k) (broadcast (Mat R 128) 128#32)) (lane8 H k))
      H.castUp) H.castDown

/-- The chunk's scales, one per column: those of the block's 128 that start at `k`, each eight times. -/
def scaleOf (H : Fits R r) (sc : FVec F (Mat R 128) .f32) (k : BitVec 32) : FVec F (Mat R 128) .bf16 :=
  truncf .bf16 (dynamicGather 1 sc (lanes H k)) (by decide)

/-- Words as the small floats their bytes spell, one row per byte. -/
def floats (H : Fits R r) (w : IVec (Mat r 128) 32) : FVec F (Mat R 128) .bf16 :=
  extf .bf16 (bitcastToFloat .fp8e4m3 (bitcast (Mat R 128) 8 w H.bytes)) (by decide)

/-- One chunk, from its words: the scaled low codes, then the scaled high codes. -/
def chunk (H : Fits R r) (sc : FVec F (Mat R 128) .f32) (w : IVec (Mat r 128) 32) (k : BitVec 32) : FVec F (Mat R 256) .bf16 :=
  concatenate (Mat R 256) 1
    [⟨Mat R 128, mulf (floats H (loWords w)) (scaleOf H sc k)⟩, ⟨Mat R 128, mulf (floats H (hiWords w)) (scaleOf H sc k)⟩]
    H.pair

/-- Chunk `c` of a group, from the group's words. -/
def chunkAt (H : Fits R r) (sc : FVec F (Mat R 128) .f32) (w : IVec (Mat r 1024) 32) (c : Fin 8) (k : BitVec 32) :
    FVec F (Mat R 256) .bf16 :=
  chunk H sc (extractStridedSlice (Mat r 128) ![0, 128 * c.val] w (H.slice c)) k

/-- A group's words: four rows of packed bytes in each. -/
def wordsOf (H : Fits R r) (q : IVec (Mat R 1024) 8) : IVec (Mat r 1024) 32 := bitcast (Mat r 1024) 32 q H.words

/-- A group decoded: its eight chunks side by side. -/
def group (H : Fits R r) (q : IVec (Mat R 1024) 8) (s : FVec F (Mat R 128) .fp8e4m3) : FVec F (Mat R 2048) .bf16 :=
  have sc : FVec F (Mat R 128) .f32 := extf .f32 s (by decide)
  have w : IVec (Mat r 1024) 32 := wordsOf H q
  concatenate (Mat R 2048) 1
    [⟨Mat R 256, chunkAt H sc w 0 0#32⟩, ⟨Mat R 256, chunkAt H sc w 1 16#32⟩, ⟨Mat R 256, chunkAt H sc w 2 32#32⟩,
     ⟨Mat R 256, chunkAt H sc w 3 48#32⟩, ⟨Mat R 256, chunkAt H sc w 4 64#32⟩, ⟨Mat R 256, chunkAt H sc w 5 80#32⟩,
     ⟨Mat R 256, chunkAt H sc w 6 96#32⟩, ⟨Mat R 256, chunkAt H sc w 7 112#32⟩]
    H.eight

end Cert.Decode
-- ==== Proof.Body.lean ====
/-
  What one run of the kernel's body leaves: in the scratch buffer, the decoded activation block (the first point of each
  row of blocks writes it, the others find it there); in the output's block, the product of the decoded blocks. The
  payloads that the kernel's text was cut into are here put together again (each equation holds by definition).
-/
module

public import proofs.«01_k».proof.Proof.Decode
public import proofs.«01_k».proof.Proof.Gen.KernelIdeal.Value
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.KernelIdeal.Value
open Cert.KernelIdeal Cert.KernelIdeal.Gen
variable {F : FTy → Type} [FloatOps F]

/-- One zero offset. -/
theorem hz1 : (![0] : Fin 1 → Nat) = fun _ => 0 := funext fun a => by fin_cases a; rfl

/-- Two zero offsets. -/
theorem hz : (![0, 0] : Fin 2 → Nat) = fun _ => 0 := funext fun a => by fin_cases a <;> rfl

/-- A group of the activation block as it is stored: decoded, between casts that change no shape. -/
def stored (q : Vec F S1024x1024 .i8) (s : Vec F S1024x128 .fp8e4m3) : FVec F S1024x2048 .bf16 :=
  shapeCast S1024x2048
    (Cert.Decode.group Cert.Decode.fits1024 (shapeCast S1024x1024 q shapeCasts_S1024x1024_S1024x1024)
      (shapeCast S1024x128 s shapeCasts_S1024x128_S1024x128))
    shapeCasts_S1024x2048_S1024x2048

/-- The six stores that fill the scratch buffer, last first. -/
def pieces (x2 : Vec F S1024x6144 .i8) (x3 : Vec F S1024x768 .fp8e4m3) : List (View.Piece (Elt F) S1024x12288 .bf16) :=
  [⟨Rect.unit ![0, 10240] S1024x2048.size inb_S1024x12288_S1024x2048_0_10240,
      stored (View.ld x2 (Rect.unit ![0, 5120] S1024x1024.size inb_S1024x6144_S1024x1024_0_5120))
        (View.ld x3 (Rect.unit ![0, 640] S1024x128.size inb_S1024x768_S1024x128_0_640))⟩,
    ⟨Rect.unit ![0, 8192] S1024x2048.size inb_S1024x12288_S1024x2048_0_8192,
      stored (View.ld x2 (Rect.unit ![0, 4096] S1024x1024.size inb_S1024x6144_S1024x1024_0_4096))
        (View.ld x3 (Rect.unit ![0, 512] S1024x128.size inb_S1024x768_S1024x128_0_512))⟩,
    ⟨Rect.unit ![0, 6144] S1024x2048.size inb_S1024x12288_S1024x2048_0_6144,
      stored (View.ld x2 (Rect.unit ![0, 3072] S1024x1024.size inb_S1024x6144_S1024x1024_0_3072))
        (View.ld x3 (Rect.unit ![0, 384] S1024x128.size inb_S1024x768_S1024x128_0_384))⟩,
    ⟨Rect.unit ![0, 4096] S1024x2048.size inb_S1024x12288_S1024x2048_0_4096,
      stored (View.ld x2 (Rect.unit ![0, 2048] S1024x1024.size inb_S1024x6144_S1024x1024_0_2048))
        (View.ld x3 (Rect.unit ![0, 256] S1024x128.size inb_S1024x768_S1024x128_0_256))⟩,
    ⟨Rect.unit ![0, 2048] S1024x2048.size inb_S1024x12288_S1024x2048_0_2048,
      stored (View.ld x2 (Rect.unit ![0, 1024] S1024x1024.size inb_S1024x6144_S1024x1024_0_1024))
        (View.ld x3 (Rect.unit ![0, 128] S1024x128.size inb_S1024x768_S1024x128_0_128))⟩,
    ⟨Rect.unit ![0, 0] S1024x2048.size inb_S1024x12288_S1024x2048_0_0,
      stored (View.ld x2 (Rect.unit ![0, 0] S1024x1024.size inb_S1024x6144_S1024x1024_0_0))
        (View.ld x3 (Rect.unit ![0, 0] S1024x128.size inb_S1024x768_S1024x128_0_0))⟩]

/-- The scratch buffer once filled. -/
def scratch (x2 : Vec F S1024x6144 .i8) (x3 : Vec F S1024x768 .fp8e4m3) : Vec F S1024x12288 .bf16 := View.canon (pieces x2 x3)

/-- What one group adds to the product: the scratch buffer's columns from `p`, times the weight block's group at columns
    `o` (its scales at `q`). -/
def part (xs0 : Vec F S1024x12288 .bf16) (x4 : Vec F S512x6144 .i8) (x5 : Vec F S512x768 .fp8e4m3) (p o q : Nat)
    (hp : ∀ a, ![0, p] a + S1024x2048.size a ≤ S1024x12288.size a) (ho : ∀ a, ![0, o] a + S512x1024.size a ≤ S512x6144.size a)
    (hq : ∀ a, ![0, q] a + S512x128.size a ≤ S512x768.size a) : FVec F S1024x512 .f32 :=
  matmul dot_S1024x2048_S512x2048_S1024x512_1_1_0_0_n_n none
    (View.ld xs0 (Rect.unit ![0, p] S1024x2048.size hp) : FVec F S1024x2048 .bf16)
    (Cert.Decode.group Cert.Decode.fits512 (View.ld x4 (Rect.unit ![0, o] S512x1024.size ho))
      (View.ld x5 (Rect.unit ![0, q] S512x128.size hq)))
    (constant S1024x512 .f32 0x00000000#32)

/-- The six groups' products added, the first first. -/
def parts (xs0 : Vec F S1024x12288 .bf16) (x4 : Vec F S512x6144 .i8) (x5 : Vec F S512x768 .fp8e4m3) : FVec F S1024x512 .f32 :=
  (addf (addf (addf (addf (addf (part xs0 x4 x5 0 0 0 inb_S1024x12288_S1024x2048_0_0 inb_S512x6144_S512x1024_0_0 inb_S512x768_S512x128_0_0)
        (part xs0 x4 x5 2048 1024 128 inb_S1024x12288_S1024x2048_0_2048 inb_S512x6144_S512x1024_0_1024 inb_S512x768_S512x128_0_128))
        (part xs0 x4 x5 4096 2048 256 inb_S1024x12288_S1024x2048_0_4096 inb_S512x6144_S512x1024_0_2048 inb_S512x768_S512x128_0_256))
        (part xs0 x4 x5 6144 3072 384 inb_S1024x12288_S1024x2048_0_6144 inb_S512x6144_S512x1024_0_3072 inb_S512x768_S512x128_0_384))
        (part xs0 x4 x5 8192 4096 512 inb_S1024x12288_S1024x2048_0_8192 inb_S512x6144_S512x1024_0_4096 inb_S512x768_S512x128_0_512))
        (part xs0 x4 x5 10240 5120 640 inb_S1024x12288_S1024x2048_0_10240 inb_S512x6144_S512x1024_0_5120 inb_S512x768_S512x128_0_640))

/-- What a point leaves in the output's block, the scratch buffer holding `xs0`. -/
def blockOut (x0 x1 : Vec F S1 .f32) (xs0 : Vec F S1024x12288 .bf16) (x4 : Vec F S512x6144 .i8) (x5 : Vec F S512x768 .fp8e4m3) :
    FVec F S1024x512 .bf16 :=
  truncf .bf16
    (mulf (mulf (mulf (parts xs0 x4 x5)
      (broadcast S1024x512 (Scalar.ofBits .f32 0x45800000#32)))
      (broadcast S1024x512 (x0 (Shape.Idx.first (s := S1) (by decide)))))
      (broadcast S1024x512 (x1 (Shape.Idx.first (s := S1) (by decide)))))
    bitsLt_bf16_f32

/-- A first point leaves the decoded activation block in the scratch buffer. -/
theorem sout_A (c : Dev nD) (i : grid0.Coords) (arg2 : Memref sig .tc .smem S1 .f32) (harg2 : arg2.IsWhole) (arg3 : Memref sig .tc .smem S1 .f32) (harg3 : arg3.IsWhole) (arg4 : Memref sig .tc .vmem S1024x6144 .i8) (harg4 : arg4.IsWhole) (arg5 : Memref sig .tc .vmem S1024x768 .fp8e4m3) (harg5 : arg5.IsWhole) (arg6 : Memref sig .tc .vmem S512x6144 .i8) (harg6 : arg6.IsWhole) (arg7 : Memref sig .tc .vmem S512x768 .fp8e4m3) (harg7 : arg7.IsWhole) (arg8 : Memref sig .tc .vmem S1024x512 .bf16) (harg8 : arg8.IsWhole) (arg9 : Memref sig .tc .vmem S1024x12288 .bf16) (harg9 : arg9.IsWhole) (arg10 : Memref sig .tc .vmem S8x128 .f32) (harg10 : arg10.IsWhole) (hc0 : cond0_0 i)
    (x0 : Vec F S1 .f32) (x1 : Vec F S1 .f32) (x2 : Vec F S1024x6144 .i8) (x3 : Vec F S1024x768 .fp8e4m3) (x4 : Vec F S512x6144 .i8) (x5 : Vec F S512x768 .fp8e4m3) :
    sout0_A_0 c i arg2 harg2 arg3 harg3 arg4 harg4 arg5 harg5 arg6 harg6 arg7 harg7 arg8 harg8 arg9 harg9 arg10 harg10 hc0 x0 x1 x2 x3 x4 x5
      = scratch x2 x3 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 x0 x1 x2 x3 x4 x5)]
  unfold kernelRun0_A
  dsimp only
  sl_unfold_words
  simp only [View.readAt_eq_ld, harg4.read_unread, harg5.read_unread]
  rfl

/-- A first point leaves the product in the output's block: what it multiplies by is what it has just stored. -/
theorem out_A (c : Dev nD) (i : grid0.Coords) (arg2 : Memref sig .tc .smem S1 .f32) (harg2 : arg2.IsWhole) (arg3 : Memref sig .tc .smem S1 .f32) (harg3 : arg3.IsWhole) (arg4 : Memref sig .tc .vmem S1024x6144 .i8) (harg4 : arg4.IsWhole) (arg5 : Memref sig .tc .vmem S1024x768 .fp8e4m3) (harg5 : arg5.IsWhole) (arg6 : Memref sig .tc .vmem S512x6144 .i8) (harg6 : arg6.IsWhole) (arg7 : Memref sig .tc .vmem S512x768 .fp8e4m3) (harg7 : arg7.IsWhole) (arg8 : Memref sig .tc .vmem S1024x512 .bf16) (harg8 : arg8.IsWhole) (arg9 : Memref sig .tc .vmem S1024x12288 .bf16) (harg9 : arg9.IsWhole) (arg10 : Memref sig .tc .vmem S8x128 .f32) (harg10 : arg10.IsWhole) (hc0 : cond0_0 i)
    (x0 : Vec F S1 .f32) (x1 : Vec F S1 .f32) (x2 : Vec F S1024x6144 .i8) (x3 : Vec F S1024x768 .fp8e4m3) (x4 : Vec F S512x6144 .i8) (x5 : Vec F S512x768 .fp8e4m3) :
    out0_A_6 c i arg2 harg2 arg3 harg3 arg4 harg4 arg5 harg5 arg6 harg6 arg7 harg7 arg8 harg8 arg9 harg9 arg10 harg10 hc0 x0 x1 x2 x3 x4 x5
      = blockOut x0 x1 (scratch x2 x3) x4 x5 := by
  unfold out0_A_6
  rw [View.read_writes_eq_canon _ _ _ (cover0_A_6 c i arg2 harg2 arg3 harg3 arg4 harg4 arg5 harg5 arg6 harg6 arg7 harg7 arg8 harg8 arg9 harg9 arg10 harg10 hc0 x0 x1 x2 x3 x4 x5)]
  unfold kernelRun0_A
  dsimp only
  rw [View.canon_unit_zero hz]
  sl_unfold_words
  simp only [View.readCov_eq_canon']
  simp only [View.readAt_eq_ld, harg2.read_unread, harg3.read_unread, harg4.read_unread, harg5.read_unread, harg6.read_unread,
    harg7.read_unread]
  rw [View.ld_unit_zero (S := S1) hz1, View.ld_unit_zero (S := S1) hz1]
  rfl

/-- Any other point leaves the product in the output's block, by what the scratch buffer holds. -/
theorem out_B (c : Dev nD) (i : grid0.Coords) (arg2 : Memref sig .tc .smem S1 .f32) (harg2 : arg2.IsWhole) (arg3 : Memref sig .tc .smem S1 .f32) (harg3 : arg3.IsWhole) (arg4 : Memref sig .tc .vmem S1024x6144 .i8) (harg4 : arg4.IsWhole) (arg5 : Memref sig .tc .vmem S1024x768 .fp8e4m3) (harg5 : arg5.IsWhole) (arg6 : Memref sig .tc .vmem S512x6144 .i8) (harg6 : arg6.IsWhole) (arg7 : Memref sig .tc .vmem S512x768 .fp8e4m3) (harg7 : arg7.IsWhole) (arg8 : Memref sig .tc .vmem S1024x512 .bf16) (harg8 : arg8.IsWhole) (arg9 : Memref sig .tc .vmem S1024x12288 .bf16) (harg9 : arg9.IsWhole) (arg10 : Memref sig .tc .vmem S8x128 .f32) (harg10 : arg10.IsWhole) (hc0 : ¬cond0_0 i)
    (x0 : Vec F S1 .f32) (x1 : Vec F S1 .f32) (x2 : Vec F S1024x6144 .i8) (x3 : Vec F S1024x768 .fp8e4m3) (x4 : Vec F S512x6144 .i8) (x5 : Vec F S512x768 .fp8e4m3) (xs0 : Vec F S1024x12288 .bf16) :
    out0_B_6 c i arg2 harg2 arg3 harg3 arg4 harg4 arg5 harg5 arg6 harg6 arg7 harg7 arg8 harg8 arg9 harg9 arg10 harg10 hc0 x0 x1 x2 x3 x4 x5 xs0
      = blockOut x0 x1 xs0 x4 x5 := by
  unfold out0_B_6
  rw [View.read_writes_eq_canon _ _ _ (cover0_B_6 c i arg2 harg2 arg3 harg3 arg4 harg4 arg5 harg5 arg6 harg6 arg7 harg7 arg8 harg8 arg9 harg9 arg10 harg10 hc0 x0 x1 x2 x3 x4 x5 xs0)]
  unfold kernelRun0_B
  dsimp only
  rw [View.canon_unit_zero hz]
  sl_unfold_words
  simp only [View.readAt_eq_ld, harg2.read_unread, harg3.read_unread, harg6.read_unread, harg7.read_unread, harg9.read_unread]
  rw [View.ld_unit_zero (S := S1) hz1, View.ld_unit_zero (S := S1) hz1]
  rfl

end Cert.KernelIdeal.Value
-- ==== Proof.Sweep.lean ====
/-
  What the array holds: the scratch buffer after any point is the activation block of that point's row of blocks, decoded;
  so what each point leaves in the output's block is the product of its row's activation block and its weight block.
-/
module

public import proofs.«01_k».proof.Proof.Body

@[expose] public section

set_option maxRecDepth 16384

noncomputable section

open Idealize.ShloMosaic Idealize.ShloMosaic.TcCoe Idealize.SL.Sem
open Idealize.ShloMosaic.Pipeline (Dat)

namespace Cert.KernelIdeal.Value
open Cert.KernelIdeal Cert.KernelIdeal.Gen
variable {F : FTy → Type} [FloatOps F]
variable (m : (ℓ : Loc nD τ sig) → Buf (Elt F) ℓ) (ρ : Dev nD → PrngReg)

/-- The first point of the row of blocks that point `n` is in. -/
def first (n : ℕ) (hn : n < cfg0.N) : Fin cfg0.N := ⟨6 * (n / 6), by omega⟩

/-- The decoded activation block of the row of blocks that point `n` is in. -/
def rowScratch (c : Dev nD) (n : ℕ) (hn : n < cfg0.N) : Vec F S1024x12288 .bf16 :=
  scratch (iblk m c 2 (first n hn)) (iblk m c 3 (first n hn))

/-- After the first point of a row the scratch buffer holds the row's decoded activation block. -/
theorem scratch_A (c : Dev nD) (t : Fin cfg0.N) (h0 : t.val % 6 = 0) :
    (outsAt0 m c t.val t.isLt).2 = scratch (iblk m c 2 t) (iblk m c 3 t) := by
  rw [outsAt0_A m c t h0]
  dsimp only
  rw [sout_A]

/-- Any other point leaves the scratch buffer as it was. -/
theorem scratch_B (c : Dev nD) (t : Fin cfg0.N) (h0 : ¬t.val % 6 = 0) : (outsAt0 m c t.val t.isLt).2
    = (outsAt0 m c (t.val - 1) (Nat.lt_of_le_of_lt (Nat.sub_le _ _) t.isLt)).2 := by
  rw [outsAt0_B m c t h0]
  rfl

/-- A row's first point is its own first point. -/
theorem first_A (n : ℕ) (hn : n < cfg0.N) (h0 : n % 6 = 0) : first n hn = ⟨n, hn⟩ :=
  Fin.ext (show 6 * (n / 6) = n by omega)

/-- Any other point is in the row of the point before it. -/
theorem first_B (n k : ℕ) (hn : n < cfg0.N) (hk : k < cfg0.N) (e : k = n - 1) (h0 : ¬n % 6 = 0) : first n hn = first k hk :=
  Fin.ext (show 6 * (n / 6) = 6 * (k / 6) by omega)

/-- After every point the scratch buffer holds the row's decoded activation block. -/
theorem scratch_after (c : Dev nD) : ∀ (n : ℕ) (hn : n < cfg0.N), (outsAt0 m c n hn).2 = rowScratch m c n hn := by
  intro n
  induction n with
  | zero =>
    intro hn
    refine (scratch_A m c ⟨0, hn⟩ (Nat.zero_mod _)).trans ?_
    unfold rowScratch
    rw [first_A 0 hn (Nat.zero_mod _)]
  | succ n ih =>
    intro hn
    by_cases h0 : (n + 1) % 6 = 0
    · refine (scratch_A m c ⟨n + 1, hn⟩ h0).trans ?_
      unfold rowScratch
      rw [first_A (n + 1) hn h0]
    · refine (scratch_B m c ⟨n + 1, hn⟩ h0).trans ((ih (Nat.lt_of_succ_lt hn)).trans ?_)
      unfold rowScratch
      rw [first_B (n + 1) n hn (Nat.lt_of_succ_lt hn) rfl h0]

/-- What each point leaves in the output's block. -/
theorem out_after (c : Dev nD) (t : Fin cfg0.N) : (outsAt0 m c t.val t.isLt).1
    = blockOut (iblk m c 0 t) (iblk m c 1 t) (rowScratch m c t.val t.isLt) (iblk m c 4 t) (iblk m c 5 t) := by
  by_cases h0 : t.val % 6 = 0
  · rw [outsAt0_A m c t h0]
    dsimp only
    rw [out_A]
    unfold rowScratch
    rw [first_A t.val t.isLt h0]
  · rw [outsAt0_B m c t h0]
    dsimp only
    rw [out_B, scratch_after]
    unfold rowScratch
    rw [first_B t.val (t.val - 1) t.isLt (Nat.lt_of_le_of_lt (Nat.sub_le _ _) t.isLt) rfl h0]

/-- The point that writes back the block an index is in. -/
def ptOf (i : S16384x3072.Idx) : Fin cfg0.N := ⟨pt6Of i, by
  have h0 : (i 0).val < 16384 := (i 0).isLt
  have h1 : (i 1).val < 3072 := (i 1).isLt
  rw [show cfg0.N = 96 from N_0]
  show 6 * ((i 0).val / 1024 - 0) + 1 * ((i 1).val / 512 - 0) < 96
  omega⟩

/-- The array the kernel leaves, at an index: what the point of the index's block left there. -/
theorem G6_apply (c : Dev nD) (i : S16384x3072.Idx) : G6 m c i
    = blockOut (iblk m c 0 (ptOf i)) (iblk m c 1 (ptOf i)) (rowScratch m c (ptOf i).val (ptOf i).isLt)
        (iblk m c 4 (ptOf i)) (iblk m c 5 (ptOf i)) (loc6Of i) := by
  unfold G6
  refine (dif_pos (ptOf i).isLt).trans ?_
  rw [← out_after m c (ptOf i), outsAt0_sweep m c _ (ptOf i).isLt]
  rfl

/-- The activation codes when the kernel is entered: the argument, its leading axis of extent one dropped. -/
theorem V_main_v0 (c : Dev nD) : V m c main_v0
    = shapeCast S16384x6144 (m ((c : Thread nD τ).loc main_arg0)) shapeCasts_S1x16384x6144_S16384x6144 := by
  show StableHlo.after hostOps0 _ (Proc.devRef .tc main_v0) = _
  after_results
  rfl

/-- The activation scales when the kernel is entered: the argument, its leading axis of extent one dropped. -/
theorem V_main_v1 (c : Dev nD) : V m c main_v1
    = shapeCast S16384x768 (m ((c : Thread nD τ).loc main_arg1)) shapeCasts_S1x16384x768_S16384x768 := by
  show StableHlo.after hostOps0 _ (Proc.devRef .tc main_v1) = _
  after_results
  rfl

end Cert.KernelIdeal.Value
-- ==== Proof.Words.lean ====
/-
  The value of a decoded group, read at an index: every column is the code it comes from, as the small float the kernel's
  word operations spell (1/64 of the four-bit value), times the scale of the eight columns it is in. The word operations
  act on four bytes at once and on each as on a byte alone.
-/
module

public import proofs.«01_k».proof.Proof.Decode
public import Idealize.ShloMosaic.Lib.BitcastFour
public import Idealize.ShloMosaic.PureOps.Ideal

@[expose] public section

noncomputable section

open Idealize.ShloMosaic hiding ix2
open Idealize.ShloMosaic.ValueIdx (ix2)

namespace Cert.Decode

/-! ## Bytes -/

/-- The eight-bit pattern of a byte's low code. -/
def lowByte (b : BitVec 8) : BitVec 8 := ((b &&& 7#8) <<< 2) ||| ((b &&& 8#8) <<< 4)

/-- The eight-bit pattern of a byte's high code. -/
def highByte (b : BitVec 8) : BitVec 8 := ((b >>> 2) &&& 28#8) ||| (b &&& 128#8)

/-- The low codes' word of one word. -/
def loWord (v : BitVec 32) : BitVec 32 :=
  IntOp.ori (IntOp.shli .vector (IntOp.andi v 117901063#32) 2#32) (IntOp.shli .vector (IntOp.andi v 134744072#32) 4#32)

/-- The high codes' word of one word. -/
def hiWord (v : BitVec 32) : BitVec 32 :=
  IntOp.ori (IntOp.andi (IntOp.shrsi .vector v 2#32) 471604252#32) (IntOp.andi v 2155905152#32)

/-- Byte `p` of the low codes' word is the low pattern of byte `p`. -/
theorem loWord_byte (v : BitVec 32) (p : Nat) (hp : p < 4) (i : Nat) (hi : i < 8) :
    (loWord v).getLsbD (8 * p + i) = (lowByte (v.extractLsb' (8 * p) 8)).getLsbD i := by
  unfold loWord lowByte IntOp.ori IntOp.shli IntOp.andi
  interval_cases p <;> interval_cases i <;> simp

/-- Byte `p` of the high codes' word is the high pattern of byte `p`. -/
theorem hiWord_byte (v : BitVec 32) (p : Nat) (hp : p < 4) (i : Nat) (hi : i < 8) :
    (hiWord v).getLsbD (8 * p + i) = (highByte (v.extractLsb' (8 * p) 8)).getLsbD i := by
  unfold hiWord highByte IntOp.ori IntOp.shrsi IntOp.andi
  interval_cases p <;> interval_cases i <;> simp [BitVec.getElem_sshiftRight]

/-! ## Words of four rows, and back -/

variable {R r : Nat}

/-- Thirty-two-bit words read as bytes: bit `i` of row `p` of a lane is bit `8 (p % 4) + i` of word row `p / 4`. -/
theorem bytes_getLsbD (H : Fits R r) (w : IVec (Mat r 128) 32) (p : Fin R) (l : Fin 128) (i : Nat) (hi : i < 8) (a : Fin r)
    (ha : a.val = p.val / 4) :
    (bitcast (Mat R 128) 8 w H.bytes (ix2 p l)).getLsbD i = (w (ix2 a l)).getLsbD (8 * (p.val % 4) + i) := by
  have e : (Mat R 128).row (ix2 p l) = p.val := rfl
  rw [bitcast_getLsbD w H.bytes (ix2 p l) i hi (by decide)]
  have e1 : ((Mat R 128).row (ix2 p l) * 8 + i) / 32 = a.val := by rw [e, ha]; omega
  have e2 : ((Mat R 128).row (ix2 p l) * 8 + i) % 32 = 8 * (p.val % 4) + i := by rw [e]; omega
  rw [e2]
  congr 2
  funext c
  match c with
  | ⟨0, _⟩ => exact Fin.ext ((H.bytes.srcIdx_row _ _ _ ⟨0, Nat.zero_lt_two⟩ rfl).trans e1)
  | ⟨1, _⟩ => exact Fin.ext (H.bytes.srcIdx_other _ _ _ ⟨1, Nat.one_lt_two⟩ (by show ¬ 1 + 2 = 2; omega))

/-- The word row a byte row is in. -/
theorem fits_rows (H : Fits R r) : R = 4 * r := by
  have h := H.bytes.2.2 ⟨0, Nat.zero_lt_two⟩
  have e : r * 32 = R * 8 := h
  omega

/-- The packed byte at row `p` is byte `p % 4` of the word its row is in. -/
theorem wordsOf_byte (H : Fits R r) (q : IVec (Mat R 1024) 8) (p : Fin R) (j : Fin 1024) (a : Fin r) (ha : a.val = p.val / 4) :
    (wordsOf H q (ix2 a j)).extractLsb' (8 * (p.val % 4)) 8 = q (ix2 p j) := by
  apply BitVec.eq_of_getLsbD_eq
  intro i hi
  have e : (wordsOf H q (ix2 a j)).getLsbD (8 * (p.val % 4) + i) = (q (ix2 p j)).getLsbD ((8 * (p.val % 4) + i) % 8) :=
    bitcast_8_32_getLsbD_ix2 q H.words a j (8 * (p.val % 4) + i) (by omega) p (by omega)
  rw [BitVec.getLsbD_extractLsb', e, show (8 * (p.val % 4) + i) % 8 = i by omega]
  simp [hi]

/-- Chunk `c` of the words, at a lane. -/
theorem slice_apply (H : Fits R r) (w : IVec (Mat r 1024) 32) (c : Fin 8) (a : Fin r) (l : Fin 128) :
    extractStridedSlice (Mat r 128) ![0, 128 * c.val] w (H.slice c) (ix2 a l) = w (ix2 a ⟨128 * c.val + l.val, by omega⟩) := by
  unfold extractStridedSlice
  congr 1
  funext b
  match b with
  | ⟨0, _⟩ => exact Fin.ext (Nat.zero_add _)
  | ⟨1, _⟩ => rfl

/-- The floats of the low codes of chunk `c`: at row `p` and lane `l`, the low pattern of the packed byte there. -/
theorem floats_lo (H : Fits R r) (q : IVec (Mat R 1024) 8) (c : Fin 8) (p : Fin R) (l : Fin 128) :
    (floats H (loWords (extractStridedSlice (Mat r 128) ![0, 128 * c.val] (wordsOf H q) (H.slice c))) : FVec Ideal (Mat R 128) .bf16)
      (ix2 p l) = Ideal.e4m3fn (lowByte (q (ix2 p ⟨128 * c.val + l.val, by omega⟩))) := by
  have hr := fits_rows H
  have hp := p.isLt
  show Ideal.e4m3fn (bitcast (Mat R 128) 8 _ H.bytes (ix2 p l)) = _
  congr 1
  apply BitVec.eq_of_getLsbD_eq
  intro i hi
  rw [bytes_getLsbD H _ p l i hi ⟨p.val / 4, by omega⟩ rfl]
  show (loWord (extractStridedSlice (Mat r 128) ![0, 128 * c.val] (wordsOf H q) (H.slice c) _)).getLsbD _ = _
  rw [slice_apply H, loWord_byte _ _ (by omega) i hi, wordsOf_byte H q p _ _ rfl]

/-- The floats of the high codes of chunk `c`: at row `p` and lane `l`, the high pattern of the packed byte there. -/
theorem floats_hi (H : Fits R r) (q : IVec (Mat R 1024) 8) (c : Fin 8) (p : Fin R) (l : Fin 128) :
    (floats H (hiWords (extractStridedSlice (Mat r 128) ![0, 128 * c.val] (wordsOf H q) (H.slice c))) : FVec Ideal (Mat R 128) .bf16)
      (ix2 p l) = Ideal.e4m3fn (highByte (q (ix2 p ⟨128 * c.val + l.val, by omega⟩))) := by
  have hr := fits_rows H
  have hp := p.isLt
  show Ideal.e4m3fn (bitcast (Mat R 128) 8 _ H.bytes (ix2 p l)) = _
  congr 1
  apply BitVec.eq_of_getLsbD_eq
  intro i hi
  rw [bytes_getLsbD H _ p l i hi ⟨p.val / 4, by omega⟩ rfl]
  show (hiWord (extractStridedSlice (Mat r 128) ![0, 128 * c.val] (wordsOf H q) (H.slice c) _)).getLsbD _ = _
  rw [slice_apply H, hiWord_byte _ _ (by omega) i hi, wordsOf_byte H q p _ _ rfl]

/-! ## The scales -/

/-- The lane word at lane `l` of the chunk whose scales start at `k`. -/
def laneWord (l : Nat) (k : BitVec 32) : BitVec 32 :=
  have u := IntOp.addi (IntOp.shrsi .vector (BitVec.ofNat 32 l) 3#32) k
  Scalar.select (IntOp.cmpi .slt u 0#32) (IntOp.addi u 128#32) u

/-- In chunk `c` lane `l` takes scale `16 c + l / 8`. -/
theorem laneWord_toNat : ∀ (c : Fin 8) (l : Fin 128),
    (laneWord l.val (BitVec.ofNat 32 (16 * c.val))).toNat % 128 = 16 * c.val + l.val / 8 := by decide +kernel

/-- The lanes of a chunk, at an index. -/
theorem lanes_apply (H : Fits R r) (k : BitVec 32) (p : Fin R) (l : Fin 128) : lanes H k (ix2 p l) = laneWord l.val k := by
  unfold lanes
  rw [shapeCast_shapeCast]
  have e : (iota .tc (Mat R 128) 32 [1] H.iotas : IVec (Mat R 128) 32) (ix2 p l) = BitVec.ofNat 32 l.val := by
    rw [iota_single_apply]; rfl
  unfold select lane8 laneWord
  simp only [addi, shrsi, cmpi, broadcast, e]

/-- The scale of each lane of chunk `c`. -/
theorem scaleOf_apply (H : Fits R r) (s : FVec Ideal (Mat R 128) .f32) (c : Fin 8) (p : Fin R) (l : Fin 128) :
    (scaleOf H s (BitVec.ofNat 32 (16 * c.val)) : FVec Ideal (Mat R 128) .bf16) (ix2 p l)
      = s (ix2 p ⟨16 * c.val + l.val / 8, by omega⟩) := by
  show dynamicGather 1 s (lanes H _) (ix2 p l) = _
  rw [dynamicGather_apply, lanes_apply]
  congr 1
  funext b
  match b with
  | ⟨0, _⟩ => rfl
  | ⟨1, _⟩ => exact Fin.ext (laneWord_toNat c l)

/-! ## A group -/

/-- The pattern of the code a column takes from a byte: low in the first half of a chunk, high in the second. -/
def codeByte (h : Fin 2) (b : BitVec 8) : BitVec 8 := if h = 0 then lowByte b else highByte b

/-- One chunk, at half `h` and lane `l`. -/
theorem chunkAt_apply (H : Fits R r) (q : IVec (Mat R 1024) 8) (s : FVec Ideal (Mat R 128) .f32) (c : Fin 8) (p : Fin R)
    (h : Fin 2) (l : Fin 128) :
    (chunkAt H s (wordsOf H q) c (BitVec.ofNat 32 (16 * c.val)) : FVec Ideal (Mat R 256) .bf16)
        (ix2 p ⟨128 * h.val + l.val, by omega⟩)
      = Ideal.e4m3fn (codeByte h (q (ix2 p ⟨128 * c.val + l.val, by omega⟩))) * s (ix2 p ⟨16 * c.val + l.val / 8, by omega⟩) := by
  unfold chunkAt chunk
  match h with
  | ⟨0, _⟩ =>
    refine (concatenate_pair_apply_left 1 _ _ H.pair _ rfl (ix2 p l) (fun b => ?_)).trans ?_
    · match b with
      | ⟨0, _⟩ => rfl
      | ⟨1, _⟩ => show l.val = 128 * 0 + l.val; omega
    · show floats H _ (ix2 p l) * scaleOf H s _ (ix2 p l) = _
      rw [floats_lo, scaleOf_apply]
      rfl
  | ⟨1, _⟩ =>
    refine (concatenate_pair_apply_right 1 _ _ H.pair _ rfl rfl (ix2 p l) (fun b hb => ?_) ?_).trans ?_
    · match b with
      | ⟨0, _⟩ => rfl
      | ⟨1, _⟩ => exact absurd rfl hb
    · show l.val + 128 = 128 * 1 + l.val; omega
    · show floats H _ (ix2 p l) * scaleOf H s _ (ix2 p l) = _
      rw [floats_hi, scaleOf_apply]
      rfl

/-- A decoded group, at chunk `c`, half `h` and lane `l`. -/
theorem group_apply (H : Fits R r) (q : IVec (Mat R 1024) 8) (s : FVec Ideal (Mat R 128) .fp8e4m3) (c : Fin 8) (p : Fin R)
    (h : Fin 2) (l : Fin 128) :
    (group H q s : FVec Ideal (Mat R 2048) .bf16) (ix2 p ⟨256 * c.val + (128 * h.val + l.val), by omega⟩)
      = Ideal.e4m3fn (codeByte h (q (ix2 p ⟨128 * c.val + l.val, by omega⟩)))
        * (s (ix2 p ⟨16 * c.val + l.val / 8, by omega⟩) : EReal) := by
  unfold group
  refine (concatenate_ofFn_apply (t := Mat R 2048) (s₁ := Mat R 256) 1
    (fun n : Fin 8 => (chunkAt H (extf .f32 s (by decide)) (wordsOf H q) n (BitVec.ofNat 32 (16 * n.val)) : FVec Ideal (Mat R 256) .bf16))
    H.eight rfl 256 rfl _ c ?_ (ix2 p ⟨128 * h.val + l.val, by omega⟩) ?_ ?_).trans ?_
  · show (256 * c.val + (128 * h.val + l.val)) / 256 = c.val; omega
  · show 128 * h.val + l.val = (256 * c.val + (128 * h.val + l.val)) % 256; omega
  · intro b hb
    match b with
    | ⟨0, _⟩ => rfl
    | ⟨1, _⟩ => exact absurd rfl hb
  · exact chunkAt_apply H q (extf .f32 s (by decide)) c p h l

end Cert.Decode
-- ==== Proof.Codes.lean ====
/-
  Four-bit codes. The reference reads a code's value by a tree of choices on its four bits; the kernel's word operations
  spell it as a small float, 64 times smaller. Both are read off one table of the sixteen values.
-/
module

public import proofs.«01_k».proof.Proof.Words
public import Idealize.ShloMosaic.Lib.Pointwise

@[expose] public section

noncomputable section

open Idealize.ShloMosaic hiding ix2 ix3
open Idealize.ShloMosaic.ValueIdx (ix2 ix3)

namespace Cert.Decode

/-! ## The reference's reading of a code -/

section Reference
variable {F : FTy → Type} [FloatOps F]

/-- Whether the bit of `n` that `k` masks is set. -/
def bitOf (n k : BitVec 32) : BitVec 1 := IntOp.cmpi .ne (IntOp.andi n k) 0#32

/-- The magnitude of a code, by its lower three bits. -/
def magnitude (n : BitVec 32) : F .bf16 :=
  Scalar.select (bitOf n 4#32)
    (Scalar.select (bitOf n 2#32)
      (Scalar.select (bitOf n 1#32) (FloatOps.ofBits .bf16 0x40C0#16) (FloatOps.ofBits .bf16 0x4080#16))
      (Scalar.select (bitOf n 1#32) (FloatOps.ofBits .bf16 0x4040#16) (FloatOps.ofBits .bf16 0x4000#16)))
    (Scalar.select (bitOf n 2#32)
      (Scalar.select (bitOf n 1#32) (FloatOps.ofBits .bf16 0x3FC0#16) (FloatOps.ofBits .bf16 0x3F80#16))
      (Scalar.select (bitOf n 1#32) (FloatOps.ofBits .bf16 0x3F00#16) (FloatOps.ofBits .bf16 0x0000#16)))

/-- A code's value: its magnitude, negated where the top bit is set. -/
def codeVal (n : BitVec 32) : F .bf16 :=
  Scalar.select (bitOf n 8#32) (FloatOps.subf (FloatOps.ofBits .bf16 0x0000#16) (magnitude n)) (magnitude n)

/-- What the shapes of an operand of `R` rows must satisfy. -/
structure FieldFits (R : Nat) : Prop where
  split : (Mat R 6144).ShapeCasts ⟨3, ![R, 768, 8]⟩
  unit : (Mat R 768).ShapeCasts ⟨3, ![R, 768, 1]⟩
  spread : (⟨3, ![R, 768, 1]⟩ : Shape).Broadcasts ⟨3, ![R, 768, 8]⟩
  join : (⟨3, ![R, 768, 8]⟩ : Shape).ShapeCasts (Mat R 6144)

/-- The shape facts at 16384 rows. -/
theorem fieldFits16384 : FieldFits 16384 := ⟨by decide, by decide, by decide, by decide⟩

/-- The shape facts at 3072 rows. -/
theorem fieldFits3072 : FieldFits 3072 := ⟨by decide, by decide, by decide, by decide⟩

/-- An operand's codes' values. -/
def codeVals {s : Shape} (n : IVec s 32) : FVec F s .bf16 := fun i => codeVal (n i)

/-- One half of an operand as the reference decodes it: the codes' values, each eight scaled alike. -/
def field {R : Nat} (H : FieldFits R) (n : IVec (Mat R 6144) 32) (s : FVec F (Mat R 768) .fp8e4m3) : FVec F (Mat R 6144) .bf16 :=
  shapeCast (Mat R 6144)
    (mulf (shapeCast ⟨3, ![R, 768, 8]⟩ (codeVals n) H.split)
      (broadcastTo ⟨3, ![R, 768, 8]⟩ (shapeCast ⟨3, ![R, 768, 1]⟩ (extf .bf16 s (by decide)) H.unit) H.spread))
    H.join

end Reference

/-- A column of scales repeated over eight lanes. -/
theorem spread_apply {R : Nat} {α : Type} (h : (⟨3, ![R, 768, 1]⟩ : Shape).Broadcasts ⟨3, ![R, 768, 8]⟩)
    (x : (⟨3, ![R, 768, 1]⟩ : Shape).Idx → α) (p : Fin R) (a : Fin 768) (b : Fin 8) :
    broadcastTo ⟨3, ![R, 768, 8]⟩ x h (ix3 p a b) = x (ix3 p a 0) := by
  have hp := p.isLt
  unfold broadcastTo
  congr 1
  funext c
  apply Fin.ext
  match c with
  | ⟨0, _⟩ =>
    dsimp only
    split
    · rename_i h1
      have e : R = 1 := h1
      show 0 = p.val
      omega
    · rfl
  | ⟨1, _⟩ => rfl
  | ⟨2, _⟩ => rfl

/-- One half of an operand, at an index. -/
theorem field_apply {R : Nat} (H : FieldFits R) (n : IVec (Mat R 6144) 32) (s : FVec Ideal (Mat R 768) .fp8e4m3) (p : Fin R)
    (j : Fin 6144) : (field H n s : FVec Ideal (Mat R 6144) .bf16) (ix2 p j)
      = (codeVal (F := Ideal) (n (ix2 p j)) : EReal) * (s (ix2 p ⟨j.val / 8, by omega⟩) : EReal) := by
  unfold field
  have hj := j.isLt
  refine (shapeCast_apply _ H.join (ix2 p j) (ix3 p (⟨j.val / 8, by omega⟩ : Fin 768) (⟨j.val % 8, by omega⟩ : Fin 8)) ?_).trans ?_
  · rw [Shape.rowMajor_val_three, Shape.rowMajor_val_two]
    show (p.val * 768 + j.val / 8) * 8 + j.val % 8 = p.val * 6144 + j.val
    omega
  · show shapeCast _ (codeVals n) H.split (ix3 p (⟨j.val / 8, by omega⟩ : Fin 768) (⟨j.val % 8, by omega⟩ : Fin 8))
      * broadcastTo _ (shapeCast _ (extf .bf16 s (by decide)) H.unit) H.spread (ix3 p (⟨j.val / 8, by omega⟩ : Fin 768) (⟨j.val % 8, by omega⟩ : Fin 8)) = _
    congr 1
    · refine (shapeCast_apply _ H.split _ (ix2 p j) ?_).trans rfl
      rw [Shape.rowMajor_val_three, Shape.rowMajor_val_two]
      show p.val * 6144 + j.val = (p.val * 768 + j.val / 8) * 8 + j.val % 8
      omega
    · refine (spread_apply H.spread _ p _ _).trans ((shapeCast_apply _ H.unit _ (ix2 p (⟨j.val / 8, by omega⟩ : Fin 768)) ?_).trans rfl)
      rw [Shape.rowMajor_val_three, Shape.rowMajor_val_two]
      show p.val * 768 + j.val / 8 = (p.val * 768 + j.val / 8) * 1 + 0
      omega

/-! ## The sixteen values -/

/-- The value of each code. -/
def table : Fin 16 → ℝ := ![0, 1/2, 1, 3/2, 2, 3, 4, 6, 0, -(1/2), -1, -(3/2), -2, -3, -4, -6]

/-- The code in the low half of a byte. -/
def lowCode (b : BitVec 8) : Fin 16 := ⟨b.toNat % 16, Nat.mod_lt _ (by decide)⟩

/-- The code in the high half of a byte. -/
def highCode (b : BitVec 8) : Fin 16 := ⟨b.toNat / 16, by have := b.isLt; omega⟩

/-- A fact of every byte, from the 256 of them. -/
theorem forall_byte {P : BitVec 8 → Prop} (h : ∀ k : Fin 256, P (BitVec.ofNat 8 k.val)) (b : BitVec 8) : P b := by
  have := h ⟨b.toNat, b.isLt⟩
  rwa [show BitVec.ofNat 8 b.toNat = b by simp] at this

/-- The eight-bit pattern of a code. -/
def pattern (n : Fin 16) : BitVec 8 := BitVec.ofNat 8 (4 * (n.val % 8) + 128 * (n.val / 8))

/-- The byte made of a byte's low code is that code's pattern. -/
theorem lowByte_eq (b : BitVec 8) : lowByte b = pattern (lowCode b) :=
  forall_byte (P := fun b => lowByte b = pattern (lowCode b)) (by decide +kernel) b

/-- The byte made of a byte's high code is that code's pattern. -/
theorem highByte_eq (b : BitVec 8) : highByte b = pattern (highCode b) :=
  forall_byte (P := fun b => highByte b = pattern (highCode b)) (by decide +kernel) b

/-- The word of a code taken from the low half of a byte. -/
theorem lowWord_eq (b : BitVec 8) : IntOp.andi (b.setWidth 32) 15#32 = BitVec.ofNat 32 (lowCode b).val :=
  forall_byte (P := fun b => IntOp.andi (b.setWidth 32) 15#32 = BitVec.ofNat 32 (lowCode b).val) (by decide +kernel) b

/-- The word of a code taken from the high half of a byte. -/
theorem highWord_eq (b : BitVec 8) : IntOp.shrsi .vector (b.setWidth 32) 4#32 = BitVec.ofNat 32 (highCode b).val :=
  forall_byte (P := fun b => IntOp.shrsi .vector (b.setWidth 32) 4#32 = BitVec.ofNat 32 (highCode b).val) (by decide +kernel) b

/-- The pattern of a code is 1/64 of its value. -/
theorem e4m3fn_pattern (n : Fin 16) : Ideal.e4m3fn (pattern n) = ((table n / 64 : ℝ) : EReal) := by
  fin_cases n <;> simp [pattern, table, Ideal.e4m3fn, -EReal.coe_mul] <;> norm_num

/-- The reference's reading of a code is its value. -/
theorem codeVal_code (n : Fin 16) : (codeVal (F := Ideal) (BitVec.ofNat 32 n.val) : EReal) = ((table n : ℝ) : EReal) := by
  fin_cases n <;> simp [codeVal, magnitude, bitOf, table, Scalar.select, IntOp.cmpi, IntOp.andi] <;>
    simp [Ideal.ofBits, Ideal.ieee, -EReal.coe_mul] <;> norm_num

end Cert.Decode
-- ==== Proof.Equation.lean ====
/-
  The equation: a sum over groups, chunks and lanes of products of codes at 1/64 of their values, 4096 times, is the sum
  over the columns of the products of the codes' values.
-/
module

public import proofs.«01_k».proof.Proof.Codes
public import Idealize.ShloMosaic.Lib.Pointwise.Sums

@[expose] public section

noncomputable section

open Idealize.ShloMosaic hiding ix2 ix3
open Idealize.ShloMosaic.ValueIdx (ix2 ix3)
open scoped BigOperators

namespace Cert.Decode

/-- The value of the code in half `h` of a byte. -/
def val (h : Fin 2) (b : BitVec 8) : ℝ := table (if h = 0 then lowCode b else highCode b)

/-- The kernel's byte reads 1/64 of the code's value. -/
theorem codeByte_value (h : Fin 2) (b : BitVec 8) : Ideal.e4m3fn (codeByte h b) = ((val h b / 64 : ℝ) : EReal) := by
  unfold codeByte val
  split
  · rw [lowByte_eq, e4m3fn_pattern]
  · rw [highByte_eq, e4m3fn_pattern]

/-- Column `128 c + l` of group `g` of the packed columns. -/
abbrev col (g : Fin 6) (c : Fin 8) (l : Fin 128) : Fin 6144 := ⟨1024 * g.val + (128 * c.val + l.val), by omega⟩

/-- A sum over the columns, group by group, chunk by chunk and lane by lane. -/
theorem sum_cols (f : Fin 6144 → EReal) : ∑ j : Fin 6144, f j = ∑ g : Fin 6, ∑ c : Fin 8, ∑ l : Fin 128, f (col g c l) := by
  rw [Idealize.ShloMosaic.Fin.sum_univ_tiles 6 1024 (by norm_num)]
  refine Finset.sum_congr rfl fun g _ => ?_
  rw [Idealize.ShloMosaic.Fin.sum_univ_tiles 8 128 (by norm_num)]
  refine Finset.sum_congr rfl fun c _ => Finset.sum_congr rfl fun l _ => congrArg f (Fin.ext ?_)
  show g.val * 1024 + (c.val * 128 + l.val) = 1024 * g.val + (128 * c.val + l.val)
  omega

/-- A sum over a group's decoded columns, chunk by chunk, half by half and lane by lane. -/
theorem sum_group (f : Fin 2048 → EReal) : ∑ k : Fin 2048, f k
    = ∑ c : Fin 8, ∑ h : Fin 2, ∑ l : Fin 128, f ⟨256 * c.val + (128 * h.val + l.val), by omega⟩ := by
  rw [Idealize.ShloMosaic.Fin.sum_univ_tiles 8 256 (by norm_num)]
  refine Finset.sum_congr rfl fun c _ => ?_
  rw [Idealize.ShloMosaic.Fin.sum_univ_tiles 2 128 (by norm_num)]
  refine Finset.sum_congr rfl fun h _ => Finset.sum_congr rfl fun l _ => congrArg f (Fin.ext ?_)
  show c.val * 256 + (h.val * 128 + l.val) = 256 * c.val + (128 * h.val + l.val)
  omega

/-- A finite non-negative factor goes into a finite sum. -/
theorem sum_mul_real {ι : Type} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, mul_comm,
      EReal.left_distrib_of_nonneg_of_ne_top (EReal.coe_nonneg.2 hr) (EReal.coe_ne_top r), ← ih,
      mul_comm (r : EReal) (f a), mul_comm (r : EReal)]

/-- Two codes at 1/64 of their values, scaled and multiplied, 4096 times: the product of the values, scaled. -/
theorem rescale (a b : ℝ) (x y : EReal) :
    (((a / 64 : ℝ) : EReal) * x) * (((b / 64 : ℝ) : EReal) * y) * ((4096 : ℝ) : EReal) = ((a : EReal) * x) * ((b : EReal) * y) := by
  have e : ((a : EReal)) * (b : EReal) = (((a / 64 : ℝ) : EReal)) * ((b / 64 : ℝ) : EReal) * ((4096 : ℝ) : EReal) := by
    rw [← EReal.coe_mul, ← EReal.coe_mul, ← EReal.coe_mul]
    congr 1
    ring
  calc (((a / 64 : ℝ) : EReal) * x) * (((b / 64 : ℝ) : EReal) * y) * ((4096 : ℝ) : EReal)
      = ((((a / 64 : ℝ) : EReal)) * ((b / 64 : ℝ) : EReal) * ((4096 : ℝ) : EReal)) * (x * y) := by ac_rfl
    _ = _ := by rw [← e]; ac_rfl

section
variable {R : Nat} (q : IVec (Mat R 6144) 8) (s : FVec Ideal (Mat R 768) .fp8e4m3)

/-- A decoded code as the kernel holds it, at row `p`, half `h` and packed column `j`: 1/64 of the scaled value. -/
def dec (p : Fin R) (h : Fin 2) (j : Fin 6144) : EReal :=
  Ideal.e4m3fn (codeByte h (q (ix2 p j))) * (s (ix2 p ⟨j.val / 8, by omega⟩) : EReal)

/-- A decoded code as it is meant: the code's value times its scale. -/
def full (p : Fin R) (h : Fin 2) (j : Fin 6144) : EReal :=
  ((val h (q (ix2 p j)) : ℝ) : EReal) * (s (ix2 p ⟨j.val / 8, by omega⟩) : EReal)

end

/-- The equation, for one row of each operand. -/
theorem equation {R R' : Nat} (q : IVec (Mat R 6144) 8) (s : FVec Ideal (Mat R 768) .fp8e4m3)
    (q' : IVec (Mat R' 6144) 8) (s' : FVec Ideal (Mat R' 768) .fp8e4m3) (p : Fin R) (n : Fin R') :
    (∑ g : Fin 6, ∑ c : Fin 8, ∑ h : Fin 2, ∑ l : Fin 128, dec q s p h (col g c l) * dec q' s' n h (col g c l)) * ((4096 : ℝ) : EReal)
      = (∑ j : Fin 6144, full q s p 0 j * full q' s' n 0 j) + ∑ j : Fin 6144, full q s p 1 j * full q' s' n 1 j := by
  have h4 : (0 : ℝ) ≤ 4096 := by norm_num
  have key : ∀ h g c l, dec q s p h (col g c l) * dec q' s' n h (col g c l) * ((4096 : ℝ) : EReal)
      = full q s p h (col g c l) * full q' s' n h (col g c l) := by
    intro h g c l
    unfold dec full
    rw [codeByte_value, codeByte_value]
    exact rescale _ _ _ _
  rw [sum_cols, sum_cols, ← Finset.sum_add_distrib, sum_mul_real _ _ _ h4]
  refine Finset.sum_congr rfl fun g _ => ?_
  rw [← Finset.sum_add_distrib, sum_mul_real _ _ _ h4]
  refine Finset.sum_congr rfl fun c _ => ?_
  rw [Fin.sum_univ_two, mul_comm, EReal.left_distrib_of_nonneg_of_ne_top (EReal.coe_nonneg.2 h4) (EReal.coe_ne_top _),
    mul_comm, sum_mul_real _ _ _ h4, mul_comm, sum_mul_real _ _ _ h4]
  congr 1
  · exact Finset.sum_congr rfl fun l _ => key 0 g c l
  · exact Finset.sum_congr rfl fun l _ => key 1 g c l

end Cert.Decode
-- ==== Proof.Blocks.lean ====
/-
  What one block computes, read at an index: the scratch buffer's columns are the decoded activation codes, and each group's
  part of the product is a sum over the group's chunks, their two halves and their lanes.
-/
module

public import proofs.«01_k».proof.Proof.Sweep
public import proofs.«01_k».proof.Proof.Equation
public import Idealize.ShloMosaic.Lib.MatmulPlain

@[expose] public section

set_option maxRecDepth 16384

noncomputable section

open Idealize.ShloMosaic hiding ix2 ix3
open Idealize.ShloMosaic.TcCoe Idealize.SL.Sem
open Idealize.ShloMosaic.Pipeline (Dat)
open Idealize.ShloMosaic.ValueIdx (ix2 ix3)

namespace Cert.KernelIdeal.Value
open Cert.KernelIdeal Cert.KernelIdeal.Gen Cert.Decode

section
variable {F : FTy → Type} [FloatOps F]

/-- The stored group is the decoded group: the casts change nothing. -/
theorem stored_eq (q : Vec F S1024x1024 .i8) (s : Vec F S1024x128 .fp8e4m3) : stored q s = group fits1024 q s := by
  unfold stored
  rw [shapeCast_self, shapeCast_self, shapeCast_self]

/-- Group `g` of an activation block's codes. -/
def qGroup (x : Vec F S1024x6144 .i8) (g : Nat) : Vec F S1024x1024 .i8 := fun y =>
  x (ix2 (n0 := 1024) (n1 := 6144) (y 0) ⟨(1024 * g + (y 1).val) % 6144, Nat.mod_lt _ (by decide)⟩)

/-- Group `g` of an activation block's scales. -/
def sGroup (x : Vec F S1024x768 .fp8e4m3) (g : Nat) : Vec F S1024x128 .fp8e4m3 := fun y =>
  x (ix2 (n0 := 1024) (n1 := 768) (y 0) ⟨(128 * g + (y 1).val) % 768, Nat.mod_lt _ (by decide)⟩)

/-- A load of the codes is a group of them. -/
theorem qGroup_ld (x : Vec F S1024x6144 .i8) (g : Fin 6) (ho : ∀ a, ![0, 1024 * g.val] a + S1024x1024.size a ≤ S1024x6144.size a) :
    (View.ld x (Rect.unit (s := S1024x6144) ![0, 1024 * g.val] S1024x1024.size ho) : Vec F S1024x1024 .i8) = qGroup x g.val := by
  funext y
  have hg := g.isLt
  have h1 : (y 1).val < 1024 := (y 1).isLt
  unfold View.ld qGroup
  congr 1
  funext a
  apply Fin.ext
  match a with
  | ⟨0, _⟩ => show 0 + 1 * (y 0).val = (y 0).val; omega
  | ⟨1, _⟩ => show 1024 * g.val + 1 * (y 1).val = (1024 * g.val + (y 1).val) % 6144; omega

/-- A load of the scales is a group of them. -/
theorem sGroup_ld (x : Vec F S1024x768 .fp8e4m3) (g : Fin 6) (hq : ∀ a, ![0, 128 * g.val] a + S1024x128.size a ≤ S1024x768.size a) :
    (View.ld x (Rect.unit (s := S1024x768) ![0, 128 * g.val] S1024x128.size hq) : Vec F S1024x128 .fp8e4m3) = sGroup x g.val := by
  funext y
  have hg := g.isLt
  have h1 : (y 1).val < 128 := (y 1).isLt
  unfold View.ld sGroup
  congr 1
  funext a
  apply Fin.ext
  match a with
  | ⟨0, _⟩ => show 0 + 1 * (y 0).val = (y 0).val; omega
  | ⟨1, _⟩ => show 128 * g.val + 1 * (y 1).val = (128 * g.val + (y 1).val) % 768; omega

/-- The scratch buffer as one function of the column: group `k / 2048` of the block, decoded, at column `k % 2048`. -/
def scratchAt (x2 : Vec F S1024x6144 .i8) (x3 : Vec F S1024x768 .fp8e4m3) : Vec F S1024x12288 .bf16 := fun i =>
  group fits1024 (qGroup x2 ((i 1).val / 2048)) (sGroup x3 ((i 1).val / 2048))
    (ix2 (n0 := 1024) (n1 := 2048) (i 0) ⟨(i 1).val % 2048, Nat.mod_lt _ (by decide)⟩)

/-- That function at a column of group `g`. -/
theorem scratchAt_of (x2 : Vec F S1024x6144 .i8) (x3 : Vec F S1024x768 .fp8e4m3) (i : S1024x12288.Idx) (g : Nat) (y : S1024x2048.Idx)
    (h0 : (i 0).val = (y 0).val) (h1 : (i 1).val = 2048 * g + (y 1).val) :
    scratchAt x2 x3 i = group fits1024 (qGroup x2 g) (sGroup x3 g) y := by
  have hy : (y 1).val < 2048 := (y 1).isLt
  have e : (i 1).val / 2048 = g := by omega
  have ey : (ix2 (n0 := 1024) (n1 := 2048) (i 0) ⟨(i 1).val % 2048, Nat.mod_lt _ (by decide)⟩ : S1024x2048.Idx) = y := by
    funext a
    apply Fin.ext
    match a with
    | ⟨0, _⟩ => exact h0
    | ⟨1, _⟩ => show (i 1).val % 2048 = (y 1).val; omega
  unfold scratchAt
  rw [ey, e]

/-- One store of the six agrees with that function. -/
theorem piece_eq (x2 : Vec F S1024x6144 .i8) (x3 : Vec F S1024x768 .fp8e4m3) (g : Fin 6) (P O Q : Nat)
    (eP : P = 2048 * g.val) (eO : O = 1024 * g.val) (eQ : Q = 128 * g.val)
    (hp : ∀ a, ![0, P] a + S1024x2048.size a ≤ S1024x12288.size a) (ho : ∀ a, ![0, O] a + S1024x1024.size a ≤ S1024x6144.size a)
    (hq : ∀ a, ![0, Q] a + S1024x128.size a ≤ S1024x768.size a) (y : S1024x2048.Idx) :
    stored (View.ld x2 (Rect.unit ![0, O] S1024x1024.size ho)) (View.ld x3 (Rect.unit ![0, Q] S1024x128.size hq)) y
      = scratchAt x2 x3 ((Rect.unit (s := S1024x12288) ![0, P] S1024x2048.size hp).emb y) := by
  subst eP eO eQ
  rw [stored_eq, qGroup_ld, sGroup_ld]
  refine (scratchAt_of x2 x3 _ g.val y ?_ ?_).symm
  · show 0 + 1 * (y 0).val = _; omega
  · show 2048 * g.val + 1 * (y 1).val = _; omega

/-- The scratch buffer once filled is that function. -/
theorem scratch_eq (x2 : Vec F S1024x6144 .i8) (x3 : Vec F S1024x768 .fp8e4m3) : scratch x2 x3 = scratchAt x2 x3 := by
  funext i
  refine View.canon_apply_of_pieces (scratchAt x2 x3) (pieces x2 x3) ?_ i ?_
  · intro p hp
    simp only [pieces, List.mem_cons, List.not_mem_nil, or_false] at hp
    rcases hp with rfl | rfl | rfl | rfl | rfl | rfl
    · exact piece_eq x2 x3 5 _ _ _ rfl rfl rfl inb_S1024x12288_S1024x2048_0_10240 _ _
    · exact piece_eq x2 x3 4 _ _ _ rfl rfl rfl inb_S1024x12288_S1024x2048_0_8192 _ _
    · exact piece_eq x2 x3 3 _ _ _ rfl rfl rfl inb_S1024x12288_S1024x2048_0_6144 _ _
    · exact piece_eq x2 x3 2 _ _ _ rfl rfl rfl inb_S1024x12288_S1024x2048_0_4096 _ _
    · exact piece_eq x2 x3 1 _ _ _ rfl rfl rfl inb_S1024x12288_S1024x2048_0_2048 _ _
    · exact piece_eq x2 x3 0 _ _ _ rfl rfl rfl inb_S1024x12288_S1024x2048_0_0 _ _
  · have h0 : (i 0).val < 1024 := (i 0).isLt
    have h1 : (i 1).val < 12288 := (i 1).isLt
    have key : ∀ P : Nat, ∀ hp : ∀ a, ![0, P] a + S1024x2048.size a ≤ S1024x12288.size a,
        P ≤ (i 1).val → (i 1).val < P + 2048 → i ∈ (Rect.unit (s := S1024x12288) ![0, P] S1024x2048.size hp).set := by
      intro P hp hl hu
      rw [Rect.mem_set_unit]
      intro a
      match a with
      | ⟨0, _⟩ => exact ⟨Nat.zero_le _, by show (i 0).val < 0 + 1024; omega⟩
      | ⟨1, _⟩ => exact ⟨hl, hu⟩
    have hc : (i 1).val / 2048 = 0 ∨ (i 1).val / 2048 = 1 ∨ (i 1).val / 2048 = 2 ∨ (i 1).val / 2048 = 3 ∨ (i 1).val / 2048 = 4
      ∨ (i 1).val / 2048 = 5 := by omega
    unfold pieces
    simp only [List.exists_mem_cons_iff]
    rcases hc with h | h | h | h | h | h
    · exact .inr (.inr (.inr (.inr (.inr (.inl (key 0 _ (by omega) (by omega)))))))
    · exact .inr (.inr (.inr (.inr (.inl (key 2048 _ (by omega) (by omega))))))
    · exact .inr (.inr (.inr (.inl (key 4096 _ (by omega) (by omega)))))
    · exact .inr (.inr (.inl (key 6144 _ (by omega) (by omega))))
    · exact .inr (.inl (key 8192 _ (by omega) (by omega)))
    · exact .inl (key 10240 _ (by omega) (by omega))

end

/-- The scratch buffer at an index. -/
theorem scratchAt_apply (x2 : Vec Ideal S1024x6144 .i8) (x3 : Vec Ideal S1024x768 .fp8e4m3) (p : Fin 1024) (g : Fin 6) (c : Fin 8)
    (h : Fin 2) (l : Fin 128) (i : S1024x12288.Idx) (h0 : (i 0).val = p.val)
    (h1 : (i 1).val = 2048 * g.val + (256 * c.val + (128 * h.val + l.val))) :
    (scratchAt (F := Ideal) x2 x3 i : EReal) = dec x2 x3 p h (col g c l) := by
  refine (scratchAt_of x2 x3 i g.val (ix2 (n0 := 1024) (n1 := 2048) p ⟨256 * c.val + (128 * h.val + l.val), by omega⟩) h0 h1).trans ?_
  refine (group_apply fits1024 _ _ c p h l).trans ?_
  unfold dec qGroup sGroup
  congr 2
  · congr 1
    congr 2
    apply Fin.ext
    show (1024 * g.val + (128 * c.val + l.val)) % 6144 = 1024 * g.val + (128 * c.val + l.val)
    omega
  · congr 1
    apply Fin.ext
    show (128 * g.val + (16 * c.val + l.val / 8)) % 768 = (1024 * g.val + (128 * c.val + l.val)) / 8
    omega

/-- A weight block's decoded group at an index. -/
theorem weight_apply (x4 : Vec Ideal S512x6144 .i8) (x5 : Vec Ideal S512x768 .fp8e4m3) (n : Fin 512) (g : Fin 6) (c : Fin 8)
    (h : Fin 2) (l : Fin 128) (O Q : Nat) (eO : O = 1024 * g.val) (eQ : Q = 128 * g.val)
    (ho : ∀ a, ![0, O] a + S512x1024.size a ≤ S512x6144.size a) (hq : ∀ a, ![0, Q] a + S512x128.size a ≤ S512x768.size a) :
    (group (F := Ideal) fits512 (View.ld x4 (Rect.unit ![0, O] S512x1024.size ho)) (View.ld x5 (Rect.unit ![0, Q] S512x128.size hq))
        (ix2 n ⟨256 * c.val + (128 * h.val + l.val), by omega⟩) : EReal)
      = dec x4 x5 n h (col g c l) := by
  subst eO eQ
  refine (group_apply fits512 _ _ c n h l).trans ?_
  unfold dec
  congr 2
  · congr 1
    show x4 _ = x4 _
    congr 1
    funext a
    apply Fin.ext
    match a with
    | ⟨0, _⟩ => show 0 + 1 * n.val = n.val; omega
    | ⟨1, _⟩ => show 1024 * g.val + 1 * (128 * c.val + l.val) = 1024 * g.val + (128 * c.val + l.val); omega
  · show x5 _ = x5 _
    congr 1
    funext a
    apply Fin.ext
    match a with
    | ⟨0, _⟩ => show 0 + 1 * n.val = n.val; omega
    | ⟨1, _⟩ => show 128 * g.val + 1 * (16 * c.val + l.val / 8) = (1024 * g.val + (128 * c.val + l.val)) / 8; omega

/-- One group's part of the product, at an index. -/
theorem part_apply (x2 : Vec Ideal S1024x6144 .i8) (x3 : Vec Ideal S1024x768 .fp8e4m3) (x4 : Vec Ideal S512x6144 .i8)
    (x5 : Vec Ideal S512x768 .fp8e4m3) (g : Fin 6) (P O Q : Nat) (eP : P = 2048 * g.val) (eO : O = 1024 * g.val) (eQ : Q = 128 * g.val)
    (hp : ∀ a, ![0, P] a + S1024x2048.size a ≤ S1024x12288.size a) (ho : ∀ a, ![0, O] a + S512x1024.size a ≤ S512x6144.size a)
    (hq : ∀ a, ![0, Q] a + S512x128.size a ≤ S512x768.size a) (r : Fin 1024) (n : Fin 512) :
    (part (F := Ideal) (scratch x2 x3) x4 x5 P O Q hp ho hq (ix2 r n) : EReal)
      = ∑ c : Fin 8, ∑ h : Fin 2, ∑ l : Fin 128, dec x2 x3 r h (col g c l) * dec x4 x5 n h (col g c l) := by
  unfold part
  refine (Ideal.matmul_transposedRhs_apply (M := 1024) (K := 2048) (N := 512) none _ _ _ r n).trans ?_
  rw [show (constant S1024x512 .f32 0x00000000#32 : FVec Ideal S1024x512 .f32) (ix2 r n) = (0 : EReal) by
    show Ideal.ofBits .f32 0x00000000#32 = 0
    simp [Ideal.ofBits, Ideal.ieee], zero_add, sum_group]
  refine Finset.sum_congr rfl fun c _ => Finset.sum_congr rfl fun h _ => Finset.sum_congr rfl fun l _ => ?_
  refine congrArg₂ (· * ·) ?_ (weight_apply x4 x5 n g c h l O Q eO eQ ho hq)
  rw [scratch_eq]
  subst eP
  refine scratchAt_apply x2 x3 r g c h l _ ?_ ?_
  · show 0 + 1 * r.val = r.val; omega
  · show 2048 * g.val + 1 * (256 * c.val + (128 * h.val + l.val)) = _; omega

/-- The six groups' products added, at an index. -/
theorem parts_apply (x2 : Vec Ideal S1024x6144 .i8) (x3 : Vec Ideal S1024x768 .fp8e4m3) (x4 : Vec Ideal S512x6144 .i8)
    (x5 : Vec Ideal S512x768 .fp8e4m3) (r : Fin 1024) (n : Fin 512) :
    (parts (F := Ideal) (scratch x2 x3) x4 x5 (ix2 r n) : EReal)
      = ∑ g : Fin 6, ∑ c : Fin 8, ∑ h : Fin 2, ∑ l : Fin 128, dec x2 x3 r h (col g c l) * dec x4 x5 n h (col g c l) := by
  rw [Fin.sum_univ_six]
  unfold parts
  refine congrArg₂ (· + ·) (congrArg₂ (· + ·) (congrArg₂ (· + ·) (congrArg₂ (· + ·) (congrArg₂ (· + ·) ?_ ?_) ?_) ?_) ?_) ?_
  · exact part_apply x2 x3 x4 x5 0 _ _ _ rfl rfl rfl _ _ _ r n
  · exact part_apply x2 x3 x4 x5 1 _ _ _ rfl rfl rfl _ _ _ r n
  · exact part_apply x2 x3 x4 x5 2 _ _ _ rfl rfl rfl _ _ _ r n
  · exact part_apply x2 x3 x4 x5 3 _ _ _ rfl rfl rfl _ _ _ r n
  · exact part_apply x2 x3 x4 x5 4 _ _ _ rfl rfl rfl _ _ _ r n
  · exact part_apply x2 x3 x4 x5 5 _ _ _ rfl rfl rfl _ _ _ r n

/-- What a point leaves in the output's block, at an index: the product of the values, times the two global scales. -/
theorem blockOut_apply (x0 x1 : Vec Ideal S1 .f32) (x2 : Vec Ideal S1024x6144 .i8) (x3 : Vec Ideal S1024x768 .fp8e4m3)
    (x4 : Vec Ideal S512x6144 .i8) (x5 : Vec Ideal S512x768 .fp8e4m3) (r : Fin 1024) (n : Fin 512) :
    (blockOut (F := Ideal) x0 x1 (scratch x2 x3) x4 x5 (ix2 r n) : EReal)
      = ((∑ j : Fin 6144, full x2 x3 r 0 j * full x4 x5 n 0 j) + ∑ j : Fin 6144, full x2 x3 r 1 j * full x4 x5 n 1 j)
        * (x0 (Shape.Idx.first (s := S1) (by decide)) : EReal) * (x1 (Shape.Idx.first (s := S1) (by decide)) : EReal) := by
  rw [← equation, ← parts_apply]
  have e : (Ideal.ofBits .f32 0x45800000#32 : EReal) = ((4096 : ℝ) : EReal) := by
    simp [Ideal.ofBits, Ideal.ieee, -EReal.coe_mul]
    norm_num
  rw [← e]
  rfl

end Cert.KernelIdeal.Value
-- ==== Proof.Array.lean ====
/-
  What the kernel's array holds: at each index the product of the two operands' values, times the two global scales.
-/
module

public import proofs.«01_k».proof.Proof.Blocks

@[expose] public section

set_option maxRecDepth 16384

noncomputable section

open Idealize.ShloMosaic hiding ix2 ix3
open Idealize.ShloMosaic.TcCoe Idealize.SL.Sem
open Idealize.ShloMosaic.Pipeline (Dat)
open Idealize.ShloMosaic.ValueIdx (ix2 ix3)

namespace Cert.KernelIdeal.Value
open Cert.KernelIdeal Cert.KernelIdeal.Gen Cert.Decode

/-- Which block of each operand a point reads: the activation blocks change every six points, the weight blocks at each. -/
theorem idx_facts : ∀ t : Fin cfg0.N, win0_0.index t (0 : Fin 1) = 0 ∧ win0_1.index t (0 : Fin 1) = 0
    ∧ (win0_2.index t (0 : Fin 2) = t.val / 6 ∧ win0_2.index t (1 : Fin 2) = 0)
    ∧ (win0_3.index t (0 : Fin 2) = t.val / 6 ∧ win0_3.index t (1 : Fin 2) = 0)
    ∧ (win0_4.index t (0 : Fin 2) = t.val % 6 ∧ win0_4.index t (1 : Fin 2) = 0)
    ∧ (win0_5.index t (0 : Fin 2) = t.val % 6 ∧ win0_5.index t (1 : Fin 2) = 0) :=
  (by decide +kernel : ∀ t : Fin grid0.N, win0_0.index t (0 : Fin 1) = 0 ∧ win0_1.index t (0 : Fin 1) = 0
    ∧ (win0_2.index t (0 : Fin 2) = t.val / 6 ∧ win0_2.index t (1 : Fin 2) = 0)
    ∧ (win0_3.index t (0 : Fin 2) = t.val / 6 ∧ win0_3.index t (1 : Fin 2) = 0)
    ∧ (win0_4.index t (0 : Fin 2) = t.val % 6 ∧ win0_4.index t (1 : Fin 2) = 0)
    ∧ (win0_5.index t (0 : Fin 2) = t.val % 6 ∧ win0_5.index t (1 : Fin 2) = 0))

section
variable {F : FTy → Type} [FloatOps F]
variable (m : (ℓ : Loc nD τ sig) → Buf (Elt F) ℓ)

/-- The activation codes' block at an index. -/
theorem iblk2_apply (c : Dev nD) (t : Fin cfg0.N) (p : Fin 1024) (j : Fin 6144) (r : Fin 16384) (hr : r.val = t.val / 6 * 1024 + p.val) :
    iblk m c 2 t (ix2 (n0 := 1024) (n1 := 6144) p j) = V m c main_v0 (ix2 (n0 := 16384) (n1 := 6144) r j) := by
  obtain ⟨-, -, ⟨e0, e1⟩, -⟩ := idx_facts t
  show V m c main_v0 _ = V m c main_v0 _
  congr 1
  funext a
  apply Fin.ext
  match a with
  | ⟨0, _⟩ => show win0_2.index t (0 : Fin 2) * 1024 + 1 * p.val = r.val; rw [e0]; omega
  | ⟨1, _⟩ => show win0_2.index t (1 : Fin 2) * 6144 + 1 * j.val = j.val; rw [e1]; omega

/-- The activation scales' block at an index. -/
theorem iblk3_apply (c : Dev nD) (t : Fin cfg0.N) (p : Fin 1024) (j : Fin 768) (r : Fin 16384) (hr : r.val = t.val / 6 * 1024 + p.val) :
    iblk m c 3 t (ix2 (n0 := 1024) (n1 := 768) p j) = V m c main_v1 (ix2 (n0 := 16384) (n1 := 768) r j) := by
  obtain ⟨-, -, -, ⟨e0, e1⟩, -⟩ := idx_facts t
  show V m c main_v1 _ = V m c main_v1 _
  congr 1
  funext a
  apply Fin.ext
  match a with
  | ⟨0, _⟩ => show win0_3.index t (0 : Fin 2) * 1024 + 1 * p.val = r.val; rw [e0]; omega
  | ⟨1, _⟩ => show win0_3.index t (1 : Fin 2) * 768 + 1 * j.val = j.val; rw [e1]; omega

/-- The weight codes' block at an index. -/
theorem iblk4_apply (c : Dev nD) (t : Fin cfg0.N) (p : Fin 512) (j : Fin 6144) (n : Fin 3072) (hn : n.val = t.val % 6 * 512 + p.val) :
    iblk m c 4 t (ix2 (n0 := 512) (n1 := 6144) p j) = V m c main_arg3 (ix2 (n0 := 3072) (n1 := 6144) n j) := by
  obtain ⟨-, -, -, -, ⟨e0, e1⟩, -⟩ := idx_facts t
  show V m c main_arg3 _ = V m c main_arg3 _
  congr 1
  funext a
  apply Fin.ext
  match a with
  | ⟨0, _⟩ => show win0_4.index t (0 : Fin 2) * 512 + 1 * p.val = n.val; rw [e0]; omega
  | ⟨1, _⟩ => show win0_4.index t (1 : Fin 2) * 6144 + 1 * j.val = j.val; rw [e1]; omega

/-- The weight scales' block at an index. -/
theorem iblk5_apply (c : Dev nD) (t : Fin cfg0.N) (p : Fin 512) (j : Fin 768) (n : Fin 3072) (hn : n.val = t.val % 6 * 512 + p.val) :
    iblk m c 5 t (ix2 (n0 := 512) (n1 := 768) p j) = V m c main_arg4 (ix2 (n0 := 3072) (n1 := 768) n j) := by
  obtain ⟨-, -, -, -, -, e0, e1⟩ := idx_facts t
  show V m c main_arg4 _ = V m c main_arg4 _
  congr 1
  funext a
  apply Fin.ext
  match a with
  | ⟨0, _⟩ => show win0_5.index t (0 : Fin 2) * 512 + 1 * p.val = n.val; rw [e0]; omega
  | ⟨1, _⟩ => show win0_5.index t (1 : Fin 2) * 768 + 1 * j.val = j.val; rw [e1]; omega

/-- The activation's global scale, as a point reads it. -/
theorem iblk0_apply (c : Dev nD) (t : Fin cfg0.N) (i : S1.Idx) : iblk m c 0 t i = V m c main_arg2 i := by
  obtain ⟨e0, -⟩ := idx_facts t
  show V m c main_arg2 _ = V m c main_arg2 _
  congr 1
  funext a
  apply Fin.ext
  match a with
  | ⟨0, _⟩ => show win0_0.index t (0 : Fin 1) * 1 + 1 * (i 0).val = (i 0).val; rw [e0]; omega

/-- The weight's global scale, as a point reads it. -/
theorem iblk1_apply (c : Dev nD) (t : Fin cfg0.N) (i : S1.Idx) : iblk m c 1 t i = V m c main_arg5 i := by
  obtain ⟨-, e0, -⟩ := idx_facts t
  show V m c main_arg5 _ = V m c main_arg5 _
  congr 1
  funext a
  apply Fin.ext
  match a with
  | ⟨0, _⟩ => show win0_1.index t (0 : Fin 1) * 1 + 1 * (i 0).val = (i 0).val; rw [e0]; omega

end

variable (m : (ℓ : Loc nD τ sig) → Buf (Elt Ideal) ℓ)

/-- A value of the activation block is a value of the activations. -/
theorem full_activation (c : Dev nD) (t : Fin cfg0.N) (p : Fin 1024) (h : Fin 2) (j : Fin 6144) (r : Fin 16384)
    (hr : r.val = t.val / 6 * 1024 + p.val) :
    full (iblk m c 2 t) (iblk m c 3 t) p h j = full (V m c main_v0) (V m c main_v1) r h j := by
  unfold full
  exact congrArg₂ (· * ·) (congrArg (fun b => ((val h b : ℝ) : EReal)) (iblk2_apply m c t p j r hr)) (iblk3_apply m c t p _ r hr)

/-- A value of the weight block is a value of the weights. -/
theorem full_weight (c : Dev nD) (t : Fin cfg0.N) (p : Fin 512) (h : Fin 2) (j : Fin 6144) (n : Fin 3072)
    (hn : n.val = t.val % 6 * 512 + p.val) :
    full (iblk m c 4 t) (iblk m c 5 t) p h j = full (V m c main_arg3) (V m c main_arg4) n h j := by
  unfold full
  exact congrArg₂ (· * ·) (congrArg (fun b => ((val h b : ℝ) : EReal)) (iblk4_apply m c t p j n hn)) (iblk5_apply m c t p _ n hn)

/-- The kernel's array at an index. -/
theorem result_apply (c : Dev nD) (r : Fin 16384) (n : Fin 3072) :
    (G6 m c (ix2 (n0 := 16384) (n1 := 3072) r n) : EReal)
      = ((∑ j : Fin 6144, full (V m c main_v0) (V m c main_v1) r 0 j * full (V m c main_arg3) (V m c main_arg4) n 0 j)
          + ∑ j : Fin 6144, full (V m c main_v0) (V m c main_v1) r 1 j * full (V m c main_arg3) (V m c main_arg4) n 1 j)
        * (V m c main_arg2 (Shape.Idx.first (s := S1) (by decide)) : EReal)
        * (V m c main_arg5 (Shape.Idx.first (s := S1) (by decide)) : EReal) := by
  have hr := r.isLt
  have hn := n.isLt
  have et : (ptOf (ix2 (n0 := 16384) (n1 := 3072) r n)).val = 6 * (r.val / 1024) + n.val / 512 := by
    show 6 * (r.val / 1024 - 0) + 1 * (n.val / 512 - 0) = _
    omega
  have el : (loc6Of (ix2 (n0 := 16384) (n1 := 3072) r n)) = ix2 (n0 := 1024) (n1 := 512) ⟨r.val % 1024, by omega⟩ ⟨n.val % 512, by omega⟩ := by
    funext a
    apply Fin.ext
    match a with
    | ⟨0, _⟩ => rfl
    | ⟨1, _⟩ => rfl
  rw [G6_apply, el]
  generalize ptOf (ix2 (n0 := 16384) (n1 := 3072) r n) = t at et
  unfold rowScratch
  refine (blockOut_apply _ _ _ _ _ _ _ _).trans ?_
  have ef : (first t.val t.isLt).val = 6 * (t.val / 6) := rfl
  refine congrArg₂ (· * ·) (congrArg₂ (· * ·) (congrArg₂ (· + ·) ?_ ?_) (iblk0_apply m c t _)) (iblk1_apply m c t _)
  · refine Finset.sum_congr rfl fun j _ => congrArg₂ (· * ·) ?_ ?_
    · exact full_activation m c _ _ 0 j r (by rw [ef]; show r.val = _ + r.val % 1024; omega)
    · exact full_weight m c t _ 0 j n (by show n.val = _ + n.val % 512; omega)
  · refine Finset.sum_congr rfl fun j _ => congrArg₂ (· * ·) ?_ ?_
    · exact full_activation m c _ _ 1 j r (by rw [ef]; show r.val = _ + r.val % 1024; omega)
    · exact full_weight m c t _ 1 j n (by show n.val = _ + n.val % 512; omega)

end Cert.KernelIdeal.Value
-- ==== Proof.RefValue.lean ====
/-
  What the reference computes: both halves of both operands decoded, the two products added, the two global scales
  multiplied in; one point, whose blocks are the arrays.
-/
module

public import proofs.«01_k».proof.Proof.Codes
public import proofs.«01_k».proof.Proof.Gen.ReferenceIdeal.Value
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.ReferenceIdeal.Value
open Cert.ReferenceIdeal Cert.ReferenceIdeal.Gen
variable {F : FTy → Type} [FloatOps F]

/-- The low codes of an operand, as words. -/
def loCodes {s : Shape} (q : IVec s 8) : IVec s 32 := andi (extui 32 q natLt_8_32) (broadcast s 15#32)

/-- The high codes of an operand, as words. -/
def hiCodes {s : Shape} (q : IVec s 8) : IVec s 32 := shrsi (extui 32 q natLt_8_32) (broadcast s 4#32)

/-- The reference's result, from the arrays it reads. -/
def refOut (x0 : Vec F S16384x6144 .i8) (x1 : Vec F S16384x768 .fp8e4m3) (x2 : Vec F S1 .f32) (x3 : Vec F S3072x6144 .i8)
    (x4 : Vec F S3072x768 .fp8e4m3) (x5 : Vec F S1 .f32) : FVec F S16384x3072 .bf16 :=
  truncf .bf16
    (mulf (mulf
      (addf
        (matmul dot_S16384x6144_S3072x6144_S16384x3072_1_1_0_0_n_n none
          (Cert.Decode.field Cert.Decode.fieldFits16384 (loCodes (shapeCast S16384x6144 x0 shapeCasts_S16384x6144_S16384x6144))
            (shapeCast S16384x768 x1 shapeCasts_S16384x768_S16384x768) : FVec F S16384x6144 .bf16)
          (Cert.Decode.field Cert.Decode.fieldFits3072 (loCodes x3) x4 : FVec F S3072x6144 .bf16)
          (constant S16384x3072 .f32 0x00000000#32))
        (matmul dot_S16384x6144_S3072x6144_S16384x3072_1_1_0_0_n_n none
          (Cert.Decode.field Cert.Decode.fieldFits16384 (hiCodes (shapeCast S16384x6144 x0 shapeCasts_S16384x6144_S16384x6144))
            (shapeCast S16384x768 x1 shapeCasts_S16384x768_S16384x768) : FVec F S16384x6144 .bf16)
          (Cert.Decode.field Cert.Decode.fieldFits3072 (hiCodes x3) x4 : FVec F S3072x6144 .bf16)
          (constant S16384x3072 .f32 0x00000000#32)))
      (broadcast S16384x3072 (x2 (Shape.Idx.first (s := S1) (by decide)))))
      (broadcast S16384x3072 (x5 (Shape.Idx.first (s := S1) (by decide)))))
    bitsLt_bf16_f32

/-- One zero offset. -/
theorem hz1 : (![0] : Fin 1 → Nat) = fun _ => 0 := funext fun a => by fin_cases a; rfl

/-- Two zero offsets. -/
theorem hz : (![0, 0] : Fin 2 → Nat) = fun _ => 0 := funext fun a => by fin_cases a <;> rfl

/-- What the one point leaves in the output's block. -/
theorem out_A (c : Dev nD) (arg0 : Memref sig .tc .vmem S16384x6144 .i8) (harg0 : arg0.IsWhole) (arg1 : Memref sig .tc .vmem S16384x768 .fp8e4m3) (harg1 : arg1.IsWhole) (arg2 : Memref sig .tc .smem S1 .f32) (harg2 : arg2.IsWhole) (arg3 : Memref sig .tc .vmem S3072x6144 .i8) (harg3 : arg3.IsWhole) (arg4 : Memref sig .tc .vmem S3072x768 .fp8e4m3) (harg4 : arg4.IsWhole) (arg5 : Memref sig .tc .smem S1 .f32) (harg5 : arg5.IsWhole) (arg6 : Memref sig .tc .vmem S16384x3072 .bf16) (harg6 : arg6.IsWhole)
    (x0 : Vec F S16384x6144 .i8) (x1 : Vec F S16384x768 .fp8e4m3) (x2 : Vec F S1 .f32) (x3 : Vec F S3072x6144 .i8) (x4 : Vec F S3072x768 .fp8e4m3) (x5 : Vec F S1 .f32) :
    out0_A_6 c arg0 harg0 arg1 harg1 arg2 harg2 arg3 harg3 arg4 harg4 arg5 harg5 arg6 harg6 x0 x1 x2 x3 x4 x5
      = refOut x0 x1 x2 x3 x4 x5 := by
  unfold out0_A_6
  rw [View.read_writes_eq_canon _ _ _ (cover0_A_6 c arg0 harg0 arg1 harg1 arg2 harg2 arg3 harg3 arg4 harg4 arg5 harg5 arg6 harg6 x0 x1 x2 x3 x4 x5)]
  unfold kernelRun0_A
  dsimp only
  rw [View.canon_unit_zero hz]
  sl_unfold_words
  simp only [View.readAt_eq_ld, harg0.read_unread, harg1.read_unread, harg2.read_unread, harg3.read_unread, harg4.read_unread,
    harg5.read_unread]
  rw [View.ld_unit_zero (S := S1) hz1, View.ld_unit_zero (S := S1) hz1]
  simp only [View.ld_unit_zero (S := S16384x6144) hz, View.ld_unit_zero (S := S16384x768) hz,
    View.ld_unit_zero (S := S3072x6144) hz, View.ld_unit_zero (S := S3072x768) hz]
  rfl

end Cert.ReferenceIdeal.Value
-- ==== Proof.RefAt.lean ====
/-
  The reference at an index, and the array it leaves.
-/
module

public import proofs.«01_k».proof.Proof.RefValue
public import proofs.«01_k».proof.Proof.Equation
public import Idealize.ShloMosaic.Lib.MatmulPlain

@[expose] public section

set_option maxRecDepth 16384

noncomputable section

open Idealize.ShloMosaic hiding ix2 ix3
open Idealize.ShloMosaic.TcCoe Idealize.SL.Sem
open Idealize.ShloMosaic.Pipeline (Dat)
open Idealize.ShloMosaic.ValueIdx (ix2 ix3)

namespace Cert.ReferenceIdeal.Value
open Cert.ReferenceIdeal Cert.ReferenceIdeal.Gen Cert.Decode

/-- The decoded low half of an operand, at an index. -/
theorem field_lo {R : Nat} (H : FieldFits R) (q : IVec (Mat R 6144) 8) (s : FVec Ideal (Mat R 768) .fp8e4m3) (p : Fin R)
    (j : Fin 6144) : ((field H (loCodes q) s : FVec Ideal (Mat R 6144) .bf16) (ix2 p j) : EReal) = full q s p 0 j := by
  rw [field_apply]
  unfold full val
  rw [if_pos rfl, ← codeVal_code]
  rw [← lowWord_eq]
  rfl

/-- The decoded high half of an operand, at an index. -/
theorem field_hi {R : Nat} (H : FieldFits R) (q : IVec (Mat R 6144) 8) (s : FVec Ideal (Mat R 768) .fp8e4m3) (p : Fin R)
    (j : Fin 6144) : ((field H (hiCodes q) s : FVec Ideal (Mat R 6144) .bf16) (ix2 p j) : EReal) = full q s p 1 j := by
  rw [field_apply]
  unfold full val
  rw [if_neg (by decide), ← codeVal_code]
  rw [← highWord_eq]
  rfl

/-- One product of the reference, at an index. -/
theorem product_apply (a : FVec Ideal S16384x6144 .bf16) (b : FVec Ideal S3072x6144 .bf16) (r : Fin 16384) (n : Fin 3072) :
    (matmul dot_S16384x6144_S3072x6144_S16384x3072_1_1_0_0_n_n none a b (constant S16384x3072 .f32 0x00000000#32)
      : FVec Ideal S16384x3072 .f32) (ix2 r n) = ∑ j : Fin 6144, (a (ix2 r j) : EReal) * (b (ix2 n j) : EReal) := by
  refine (Ideal.matmul_transposedRhs_apply (M := 16384) (K := 6144) (N := 3072) none a b _ r n).trans ?_
  rw [show (constant S16384x3072 .f32 0x00000000#32 : FVec Ideal S16384x3072 .f32) (ix2 r n) = (0 : EReal) by
    show Ideal.ofBits .f32 0x00000000#32 = 0
    simp [Ideal.ofBits, Ideal.ieee], zero_add]

/-- The reference's result, at an index. -/
theorem refOut_apply (x0 : Vec Ideal S16384x6144 .i8) (x1 : Vec Ideal S16384x768 .fp8e4m3) (x2 : Vec Ideal S1 .f32)
    (x3 : Vec Ideal S3072x6144 .i8) (x4 : Vec Ideal S3072x768 .fp8e4m3) (x5 : Vec Ideal S1 .f32) (r : Fin 16384) (n : Fin 3072) :
    (refOut (F := Ideal) x0 x1 x2 x3 x4 x5 (ix2 r n) : EReal)
      = ((∑ j : Fin 6144, full x0 x1 r 0 j * full x3 x4 n 0 j) + ∑ j : Fin 6144, full x0 x1 r 1 j * full x3 x4 n 1 j)
        * (x2 (Shape.Idx.first (s := S1) (by decide)) : EReal) * (x5 (Shape.Idx.first (s := S1) (by decide)) : EReal) := by
  unfold refOut
  rw [shapeCast_self, shapeCast_self]
  refine congrArg (· * (x5 (Shape.Idx.first (s := S1) (by decide)) : EReal))
    (congrArg (· * (x2 (Shape.Idx.first (s := S1) (by decide)) : EReal)) (congrArg₂ (· + ·) ?_ ?_))
  · refine (product_apply _ _ r n).trans (Finset.sum_congr rfl fun j _ => congrArg₂ (· * ·) ?_ ?_)
    · exact field_lo _ _ _ r j
    · exact field_lo _ _ _ n j
  · refine (product_apply _ _ r n).trans (Finset.sum_congr rfl fun j _ => congrArg₂ (· * ·) ?_ ?_)
    · exact field_hi _ _ _ r j
    · exact field_hi _ _ _ n j

section
variable {F : FTy → Type} [FloatOps F]
variable (m : (ℓ : Loc nD τ sig) → Buf (Elt F) ℓ)

/-- The activation codes when the reference is entered. -/
theorem V_main_v0 (c : Dev nD) : V m c main_v0
    = shapeCast S16384x6144 (m ((c : Thread nD τ).loc main_arg0)) shapeCasts_S1x16384x6144_S16384x6144 := by
  show StableHlo.after hostOps0 _ (Proc.devRef .tc main_v0) = _
  after_results
  rfl

/-- The activation scales when the reference is entered. -/
theorem V_main_v1 (c : Dev nD) : V m c main_v1
    = shapeCast S16384x768 (m ((c : Thread nD τ).loc main_arg1)) shapeCasts_S1x16384x768_S16384x768 := by
  show StableHlo.after hostOps0 _ (Proc.devRef .tc main_v1) = _
  after_results
  rfl

/-- The one grid point. -/
def t₀ : Fin cfg0.N := ⟨0, by decide⟩

/-- The array after the run, read through its one block, is what the one point wrote back. -/
theorem final_out (c : Dev nD) :
    ((cfg0.win (6 : Fin 7)).blk t₀).view.read (Elt F) ((dats (F := F) m 0 c).arrAt (6 : Fin 7) cfg0.N)
      = (dats (F := F) m 0 c).flushed (6 : Fin 7) t₀ := by
  rw [show cfg0.N = (t₀ : Fin cfg0.N).val + 1 from rfl, (dats (F := F) m 0 c).arrAt_succ (6 : Fin 7) t₀]
  rw [show (cfg0.win (6 : Fin 7)).flush t₀ = true from by decide, if_pos rfl]
  exact View.read_write_univ _ _

end

end Cert.ReferenceIdeal.Value
-- ==== Proof.RefArray.lean ====
/-
  The array the reference leaves: its one block is the array, and its input blocks are the arrays it reads.
-/
module

public import proofs.«01_k».proof.Proof.RefAt

@[expose] public section

set_option maxRecDepth 16384

noncomputable section

open Idealize.ShloMosaic hiding ix2 ix3
open Idealize.ShloMosaic.TcCoe Idealize.SL.Sem
open Idealize.ShloMosaic.Pipeline (Dat)
open Idealize.ShloMosaic.ValueIdx (ix2 ix3)

namespace Cert.ReferenceIdeal.Value
open Cert.ReferenceIdeal Cert.ReferenceIdeal.Gen Cert.Decode

variable {F : FTy → Type} [FloatOps F]
variable (m : (ℓ : Loc nD τ sig) → Buf (Elt F) ℓ)

/-- The result array after the run, from the arrays the call reads. -/
theorem final_entry (c : Dev nD) :
    (dats (F := F) m 0 c).arrAt (6 : Fin 7) cfg0.N
      = refOut (V m c main_v0) (V m c main_v1) (V m c main_arg2) (V m c main_arg3) (V m c main_arg4) (V m c main_arg5) := by
  have ho := final_out (F := F) m c
  have hz6 : (fun a => (win0_6.index t₀) a * main_v2.ty.shape.size a) = fun _ => 0 :=
    funext fun a => by fin_cases a <;> decide
  have hr6 := fun f => Memref.read_access_unit_zero (Elt F) main_v2 hz6 (fun a => by fin_cases a <;> decide) f
  have hz0 : (fun a => (win0_0.index t₀) a * main_v0.ty.shape.size a) = fun _ => 0 :=
    funext fun a => by fin_cases a <;> decide
  have hr0 := fun f => Memref.read_access_unit_zero (Elt F) main_v0 hz0 (fun a => by fin_cases a <;> decide) f
  have hz1 : (fun a => (win0_1.index t₀) a * main_v1.ty.shape.size a) = fun _ => 0 :=
    funext fun a => by fin_cases a <;> decide
  have hr1 := fun f => Memref.read_access_unit_zero (Elt F) main_v1 hz1 (fun a => by fin_cases a <;> decide) f
  have hz2 : (fun a => (win0_2.index t₀) a * main_arg2.ty.shape.size a) = fun _ => 0 :=
    funext fun a => by fin_cases a; decide
  have hr2 := fun f => Memref.read_access_unit_zero (Elt F) main_arg2 hz2 (fun a => by fin_cases a; decide) f
  have hz3 : (fun a => (win0_3.index t₀) a * main_arg3.ty.shape.size a) = fun _ => 0 :=
    funext fun a => by fin_cases a <;> decide
  have hr3 := fun f => Memref.read_access_unit_zero (Elt F) main_arg3 hz3 (fun a => by fin_cases a <;> decide) f
  have hz4 : (fun a => (win0_4.index t₀) a * main_arg4.ty.shape.size a) = fun _ => 0 :=
    funext fun a => by fin_cases a <;> decide
  have hr4 := fun f => Memref.read_access_unit_zero (Elt F) main_arg4 hz4 (fun a => by fin_cases a <;> decide) f
  have hz5 : (fun a => (win0_5.index t₀) a * main_arg5.ty.shape.size a) = fun _ => 0 :=
    funext fun a => by fin_cases a; decide
  have hr5 := fun f => Memref.read_access_unit_zero (Elt F) main_arg5 hz5 (fun a => by fin_cases a; decide) f
  rw [hr6] at ho
  rw [ho, flushed6_A, out_A]
  unfold iblk
  rw [hr0, hr1, hr2, hr3, hr4, hr5]
  rfl

end Cert.ReferenceIdeal.Value
-- ==== Proof.lean ====
/-
  The five claims, assembled: the three runs end and leave their arguments and counters as they should, the kernel read at
  exact values is the kernel, and there it leaves the array the reference leaves.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Array
public import proofs.«01_k».proof.Proof.RefArray
public import Idealize.ShloMosaic.Adequacy
public import Idealize.ShloMosaic.Init

@[expose] public section

noncomputable section

namespace Cert.Proof

open Idealize.ShloMosaic Idealize.SL.Sem Cert.Kernel

/-- The kernel runs to its end from any state, leaving the arguments unchanged and every counter at zero. -/
theorem frame_P : Cert.quiescent_Kernel := fun m ρ _ => Cert.Kernel.Gen.frame m ρ

/-- So does the kernel read at exact values. -/
theorem frame_PI : Cert.quiescent_KernelIdeal := fun m ρ _ => Cert.KernelIdeal.Gen.frame m ρ

/-- So does the reference. -/
theorem frame_RI : Cert.quiescent_ReferenceIdeal := fun m ρ _ => Cert.ReferenceIdeal.Gen.frame m ρ

/-- The kernel read at exact values is the kernel's own text. -/
theorem preserves : Cert.preserves_Kernel_KernelIdeal := trivial

/-- From memories that agree on the arguments, the two leave the same array. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    (Cert.ReferenceIdeal.Gen.dats m' 0 c).arrAt 6 Cert.ReferenceIdeal.cfg0.N = Cert.KernelIdeal.Value.G6 m c := by
  refine (Cert.ReferenceIdeal.Value.final_entry m' c).trans ?_
  rw [Cert.ReferenceIdeal.Value.V_main_v0 m' c, Cert.ReferenceIdeal.Value.V_main_v1 m' c, Cert.ReferenceIdeal.Gen.V_main_arg2 m' c,
    Cert.ReferenceIdeal.Gen.V_main_arg3 m' c, Cert.ReferenceIdeal.Gen.V_main_arg4 m' c, Cert.ReferenceIdeal.Gen.V_main_arg5 m' c,
    h0, h1, h2, h3, h4, h5]
  funext i
  have e : i = ValueIdx.ix2 (n0 := 16384) (n1 := 3072) (i 0) (i 1) := by
    funext a
    match a with
    | ⟨0, _⟩ => rfl
    | ⟨1, _⟩ => rfl
  rw [e]
  refine (Cert.ReferenceIdeal.Value.refOut_apply _ _ _ _ _ _ (i 0) (i 1)).trans
    (Eq.trans ?_ (Cert.KernelIdeal.Value.result_apply m c (i 0) (i 1)).symm)
  rw [Cert.KernelIdeal.Value.V_main_v0 m c, Cert.KernelIdeal.Value.V_main_v1 m c, Cert.KernelIdeal.Gen.V_main_arg2 m c,
    Cert.KernelIdeal.Gen.V_main_arg3 m c, Cert.KernelIdeal.Gen.V_main_arg4 m c, Cert.KernelIdeal.Gen.V_main_arg5 m c]

/-- At exact values the kernel leaves what the reference leaves. -/
theorem algebraic : Cert.algebraic_KernelIdeal_ReferenceIdeal := by
  intro m ρ m' ρ' _ hag
  refine ⟨fun c => Cert.KernelIdeal.Value.G6 m c, Cert.KernelIdeal.Value.run m ρ,
    (θ_run Cert.ReferenceIdeal.defs _ _).mono (fun _ h c => ⟨(h c).1.trans ?_, (h c).2⟩) (Cert.ReferenceIdeal.Value.run_blocks m' ρ')⟩
  obtain ⟨h0, h1, h2, h3, h4, h5⟩ := hag c
  exact result_eq m m' c h0 h1 h2 h3 h4 h5

/-- The certificate's claim. -/
theorem claim : Cert.Claim := ⟨Cert.Kernel.Gen.facts, Cert.KernelIdeal.Gen.facts, Cert.ReferenceIdeal.Gen.facts,
  frame_P, frame_PI, frame_RI, preserves, algebraic⟩

end Cert.Proof

end
